-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S1024x256 : Shape := ⟨2, ![1024, 256]⟩
abbrev S256x1024 : Shape := ⟨2, ![256, 1024]⟩
abbrev S16x32x1024 : Shape := ⟨3, ![16, 32, 1024]⟩
abbrev S14x32x1024 : Shape := ⟨3, ![14, 32, 1024]⟩
abbrev S16 : Shape := ⟨1, ![16]⟩
abbrev S14 : Shape := ⟨1, ![14]⟩
abbrev S_ : Shape := ⟨0, ![]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S1024x2048, .f32⟩
  | .hbm, ⟨3, _⟩ => ⟨S2048x1024, .f32⟩
  | .hbm, ⟨4, _⟩ => ⟨S1024x1024, .f32⟩
  | .hbm, ⟨5, _⟩ => ⟨S1024x1024, .f32⟩
  | .local _ .vmem, ⟨0, _⟩ => ⟨S1024x1024, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S256x1024, .f32⟩
  | .local _ .vmem, ⟨6, _⟩ => ⟨S256x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S16x32x1024, .f32⟩
  | .local _ .vmem, ⟨11, _⟩ => ⟨S14x32x1024, .f32⟩
  | _, _ => ⟨S1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_scratch0 : Ref sig .tc := ⟨.vmem, 10, rfl⟩
abbrev cc1_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem1_0 : DmaSem sig := 9
abbrev barrier0 : Sem sig := 0

abbrev nD : Nat := 16
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_11 : BitVec 32 := 0#32
  let v18 : BitVec 1 := Scalar.cmpi .ne v17 c0_i32_11
  v18

def k0_cond2 (i : grid0.Coords) : BitVec 1 :=
  let arg0 : BitVec 32 := BitVec.ofNat 32 (i 0).val
  let c0_i32_12 : BitVec 32 := 0#32
  let v19 : BitVec 1 := Scalar.cmpi .ne arg0 c0_i32_12
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k1_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k1_off1 (d0 : Dev nD) (c8_i32 : BitVec 32) (c0_i32_14 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v16 : BitVec 32 := Scalar.addi v2 c8_i32
  let c32_i32 : BitVec 32 := 32#32
  let v17 : BitVec 32 := Scalar.addi v16 c32_i32
  let c16_i32_13 : BitVec 32 := 16#32
  let v18 : BitVec 32 := Scalar.remsi v17 c16_i32_13
  let c64_i32 : BitVec 32 := 64#32
  let v19 : BitVec 32 := Scalar.muli v18 c64_i32
  let v20 : BitVec 32 := Scalar.addi v19 c0_i32_14
  let c0_i32_22 : BitVec 32 := 0#32
  ![v20.toNat, 0]
def k1_off1_at (r : Fin 32) : BitVec 32 × BitVec 32 :=
  if r.val < 16 then
    if r.val < 8 then
      if r.val < 4 then
        if r.val < 2 then
          if r.val < 1 then
            (8#32, 0#32)
          else
            (4294967289#32, 0#32)
        else
          if r.val < 3 then
            (8#32, 32#32)
          else
            (4294967289#32, 32#32)
      else
        if r.val < 6 then
          if r.val < 5 then
            (7#32, 0#32)
          else
            (7#32, 32#32)
        else
          if r.val < 7 then
            (4294967290#32, 0#32)
          else
            (4294967290#32, 32#32)
    else
      if r.val < 12 then
        if r.val < 10 then
          if r.val < 9 then
            (6#32, 0#32)
          else
            (6#32, 32#32)
        else
          if r.val < 11 then
            (4294967291#32, 0#32)
          else
            (4294967291#32, 32#32)
      else
        if r.val < 14 then
          if r.val < 13 then
            (5#32, 0#32)
          else
            (5#32, 32#32)
        else
          if r.val < 15 then
            (4294967292#32, 0#32)
          else
            (4294967292#32, 32#32)
  else
    if r.val < 24 then
      if r.val < 20 then
        if r.val < 18 then
          if r.val < 17 then
            (4#32, 0#32)
          else
            (4#32, 32#32)
        else
          if r.val < 19 then
            (4294967293#32, 0#32)
          else
            (4294967293#32, 32#32)
      else
        if r.val < 22 then
          if r.val < 21 then
            (3#32, 0#32)
          else
            (3#32, 32#32)
        else
          if r.val < 23 then
            (4294967294#32, 0#32)
          else
            (4294967294#32, 32#32)
    else
      if r.val < 28 then
        if r.val < 26 then
          if r.val < 25 then
            (2#32, 0#32)
          else
            (2#32, 32#32)
        else
          if r.val < 27 then
            (4294967295#32, 0#32)
          else
            (4294967295#32, 32#32)
      else
        if r.val < 30 then
          if r.val < 29 then
            (1#32, 0#32)
          else
            (1#32, 32#32)
        else
          if r.val < 31 then
            (0#32, 0#32)
          else
            (0#32, 32#32)
def k1_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_18 : BitVec 32 := 1#32
  let v21 : BitVec 32 := Scalar.muli v7 c1_i32_18
  let v22 : BitVec 32 := Scalar.addi c0_i32_19 v21
  v22.toNat
def k1_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_30 : BitVec 32 := 1#32
  let v35 : BitVec 32 := Scalar.muli v5 c1_i32_30
  let v36 : BitVec 32 := Scalar.addi c0_i32_31 v35
  v36.toNat
def k1_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_43 : BitVec 32 := 1#32
  let v49 : BitVec 32 := Scalar.muli v7 c1_i32_43
  let v50 : BitVec 32 := Scalar.addi c0_i32_44 v49
  v50.toNat
def k1_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_56 : BitVec 32 := 1#32
  let v63 : BitVec 32 := Scalar.muli v5 c1_i32_56
  let v64 : BitVec 32 := Scalar.addi c0_i32_57 v63
  v64.toNat
def k1_off2 (d0 : Dev nD) (c7_i32 : BitVec 32) (c0_i32_77 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v84 : BitVec 32 := Scalar.addi v2 c7_i32
  let c32_i32_74 : BitVec 32 := 32#32
  let v85 : BitVec 32 := Scalar.addi v84 c32_i32_74
  let c16_i32_75 : BitVec 32 := 16#32
  let v86 : BitVec 32 := Scalar.remsi v85 c16_i32_75
  let c64_i32_76 : BitVec 32 := 64#32
  let v87 : BitVec 32 := Scalar.muli v86 c64_i32_76
  let v88 : BitVec 32 := Scalar.addi v87 c0_i32_77
  let v89 : Index := Scalar.indexCast v88
  let c0_78 : Index := 0#32
  ![v89.toNat, 0]
def k1_off2_at (r : Fin 28) : BitVec 32 × BitVec 32 :=
  if r.val < 14 then
    if r.val < 7 then
      if r.val < 3 then
        if r.val < 1 then
          (7#32, 0#32)
        else
          if r.val < 2 then
            (7#32, 32#32)
          else
            (4294967290#32, 0#32)
      else
        if r.val < 5 then
          if r.val < 4 then
            (4294967290#32, 32#32)
          else
            (6#32, 0#32)
        else
          if r.val < 6 then
            (6#32, 32#32)
          else
            (4294967291#32, 0#32)
    else
      if r.val < 10 then
        if r.val < 8 then
          (4294967291#32, 32#32)
        else
          if r.val < 9 then
            (5#32, 0#32)
          else
            (5#32, 32#32)
      else
        if r.val < 12 then
          if r.val < 11 then
            (4294967292#32, 0#32)
          else
            (4294967292#32, 32#32)
        else
          if r.val < 13 then
            (4#32, 0#32)
          else
            (4#32, 32#32)
  else
    if r.val < 21 then
      if r.val < 17 then
        if r.val < 15 then
          (4294967293#32, 0#32)
        else
          if r.val < 16 then
            (4294967293#32, 32#32)
          else
            (3#32, 0#32)
      else
        if r.val < 19 then
          if r.val < 18 then
            (3#32, 32#32)
          else
            (4294967294#32, 0#32)
        else
          if r.val < 20 then
            (4294967294#32, 32#32)
          else
            (2#32, 0#32)
    else
      if r.val < 24 then
        if r.val < 22 then
          (2#32, 32#32)
        else
          if r.val < 23 then
            (4294967295#32, 0#32)
          else
            (4294967295#32, 32#32)
      else
        if r.val < 26 then
          if r.val < 25 then
            (1#32, 0#32)
          else
            (1#32, 32#32)
        else
          if r.val < 27 then
            (0#32, 0#32)
          else
            (0#32, 32#32)
def k1_dev7 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_91 : BitVec 32 := 1#32
  let v102 : BitVec 32 := Scalar.muli v7 c1_i32_91
  let v103 : BitVec 32 := Scalar.addi c0_i32_92 v102
  v103.toNat
def k1_dev8 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_125 : BitVec 32 := 1#32
  let v141 : BitVec 32 := Scalar.muli v7 c1_i32_125
  let v142 : BitVec 32 := Scalar.addi c0_i32_126 v141
  v142.toNat
def k1_dev9 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_160 : BitVec 32 := 1#32
  let v180 : BitVec 32 := Scalar.muli v5 c1_i32_160
  let v181 : BitVec 32 := Scalar.addi c0_i32_161 v180
  v181.toNat
def k1_dev10 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_196 : BitVec 32 := 1#32
  let v219 : BitVec 32 := Scalar.muli v5 c1_i32_196
  let v220 : BitVec 32 := Scalar.addi c0_i32_197 v219
  v220.toNat
def k1_dev11 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_229 : BitVec 32 := 1#32
  let v258 : BitVec 32 := Scalar.muli v7 c1_i32_229
  let v259 : BitVec 32 := Scalar.addi c0_i32_230 v258
  v259.toNat
def k1_dev12 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_263 : BitVec 32 := 1#32
  let v297 : BitVec 32 := Scalar.muli v7 c1_i32_263
  let v298 : BitVec 32 := Scalar.addi c0_i32_264 v297
  v298.toNat
def k1_dev13 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_298 : BitVec 32 := 1#32
  let v336 : BitVec 32 := Scalar.muli v5 c1_i32_298
  let v337 : BitVec 32 := Scalar.addi c0_i32_299 v336
  v337.toNat
def k1_dev14 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_334 : BitVec 32 := 1#32
  let v375 : BitVec 32 := Scalar.muli v5 c1_i32_334
  let v376 : BitVec 32 := Scalar.addi c0_i32_335 v375
  v376.toNat
def k1_dev15 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_369 : BitVec 32 := 1#32
  let v414 : BitVec 32 := Scalar.muli v7 c1_i32_369
  let v415 : BitVec 32 := Scalar.addi c0_i32_370 v414
  v415.toNat
def k1_dev16 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_404 : BitVec 32 := 1#32
  let v453 : BitVec 32 := Scalar.muli v7 c1_i32_404
  let v454 : BitVec 32 := Scalar.addi c0_i32_405 v453
  v454.toNat
def k1_dev17 (d0 : Dev nD) : Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_439 : BitVec 32 := 1#32
  let v492 : BitVec 32 := Scalar.muli v5 c1_i32_439
  let v493 : BitVec 32 := Scalar.addi c0_i32_440 v492
  v493.toNat
def k1_dev18 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_475 : BitVec 32 := 1#32
  let v531 : BitVec 32 := Scalar.muli v5 c1_i32_475
  let v532 : BitVec 32 := Scalar.addi c0_i32_476 v531
  v532.toNat
def k1_dev19 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_510 : BitVec 32 := 1#32
  let v570 : BitVec 32 := Scalar.muli v7 c1_i32_510
  let v571 : BitVec 32 := Scalar.addi c0_i32_511 v570
  v571.toNat
def k1_dev20 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_544 : BitVec 32 := 1#32
  let v609 : BitVec 32 := Scalar.muli v7 c1_i32_544
  let v610 : BitVec 32 := Scalar.addi c0_i32_545 v609
  v610.toNat
def k1_dev21 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_579 : BitVec 32 := 1#32
  let v648 : BitVec 32 := Scalar.muli v5 c1_i32_579
  let v649 : BitVec 32 := Scalar.addi c0_i32_580 v648
  v649.toNat
def k1_dev22 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_615 : BitVec 32 := 1#32
  let v687 : BitVec 32 := Scalar.muli v5 c1_i32_615
  let v688 : BitVec 32 := Scalar.addi c0_i32_616 v687
  v688.toNat
def k1_dev23 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_649 : BitVec 32 := 1#32
  let v726 : BitVec 32 := Scalar.muli v7 c1_i32_649
  let v727 : BitVec 32 := Scalar.addi c0_i32_650 v726
  v727.toNat
def k1_dev24 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_683 : BitVec 32 := 1#32
  let v765 : BitVec 32 := Scalar.muli v7 c1_i32_683
  let v766 : BitVec 32 := Scalar.addi c0_i32_684 v765
  v766.toNat
def k1_dev25 (d0 : Dev nD) : Nat :=
  let c0_i32_719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_718 : BitVec 32 := 1#32
  let v804 : BitVec 32 := Scalar.muli v5 c1_i32_718
  let v805 : BitVec 32 := Scalar.addi c0_i32_719 v804
  v805.toNat
def k1_dev26 (d0 : Dev nD) : Nat :=
  let c0_i32_755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_754 : BitVec 32 := 1#32
  let v843 : BitVec 32 := Scalar.muli v5 c1_i32_754
  let v844 : BitVec 32 := Scalar.addi c0_i32_755 v843
  v844.toNat
def k1_dev27 (d0 : Dev nD) : Nat :=
  let c0_i32_789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_788 : BitVec 32 := 1#32
  let v882 : BitVec 32 := Scalar.muli v7 c1_i32_788
  let v883 : BitVec 32 := Scalar.addi c0_i32_789 v882
  v883.toNat
def k1_dev28 (d0 : Dev nD) : Nat :=
  let c0_i32_823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_822 : BitVec 32 := 1#32
  let v921 : BitVec 32 := Scalar.muli v7 c1_i32_822
  let v922 : BitVec 32 := Scalar.addi c0_i32_823 v921
  v922.toNat
def k1_dev29 (d0 : Dev nD) : Nat :=
  let c0_i32_858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_857 : BitVec 32 := 1#32
  let v960 : BitVec 32 := Scalar.muli v5 c1_i32_857
  let v961 : BitVec 32 := Scalar.addi c0_i32_858 v960
  v961.toNat
def k1_dev30 (d0 : Dev nD) : Nat :=
  let c0_i32_894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_893 : BitVec 32 := 1#32
  let v999 : BitVec 32 := Scalar.muli v5 c1_i32_893
  let v1000 : BitVec 32 := Scalar.addi c0_i32_894 v999
  v1000.toNat
def k1_dev31 (d0 : Dev nD) : Nat :=
  let c0_i32_928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_927 : BitVec 32 := 1#32
  let v1038 : BitVec 32 := Scalar.muli v7 c1_i32_927
  let v1039 : BitVec 32 := Scalar.addi c0_i32_928 v1038
  v1039.toNat
def k1_dev32 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_961 : BitVec 32 := 1#32
  let v1077 : BitVec 32 := Scalar.muli v7 c1_i32_961
  let v1078 : BitVec 32 := Scalar.addi c0_i32_962 v1077
  v1078.toNat
def k1_dev33 (d0 : Dev nD) : Nat :=
  let c0_i32_1066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1065 : BitVec 32 := 1#32
  let v1193 : BitVec 32 := Scalar.muli v7 c1_i32_1065
  let v1194 : BitVec 32 := Scalar.addi c0_i32_1066 v1193
  v1194.toNat
def k1_dev34 (d0 : Dev nD) : Nat :=
  let c0_i32_1079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1078 : BitVec 32 := 1#32
  let v1208 : BitVec 32 := Scalar.muli v5 c1_i32_1078
  let v1209 : BitVec 32 := Scalar.addi c0_i32_1079 v1208
  v1209.toNat
def k1_dev35 (d0 : Dev nD) : Nat :=
  let c0_i32_1092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1091 : BitVec 32 := 1#32
  let v1223 : BitVec 32 := Scalar.muli v7 c1_i32_1091
  let v1224 : BitVec 32 := Scalar.addi c0_i32_1092 v1223
  v1224.toNat
def k1_dev36 (d0 : Dev nD) : Nat :=
  let c0_i32_1105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1104 : BitVec 32 := 1#32
  let v1238 : BitVec 32 := Scalar.muli v5 c1_i32_1104
  let v1239 : BitVec 32 := Scalar.addi c0_i32_1105 v1238
  v1239.toNat
def k1_dev37 (d0 : Dev nD) : Nat :=
  let c0_i32_1131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1130 : BitVec 32 := 1#32
  let v1266 : BitVec 32 := Scalar.muli v7 c1_i32_1130
  let v1267 : BitVec 32 := Scalar.addi c0_i32_1131 v1266
  v1267.toNat
def k1_dev38 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1156 : BitVec 32 := 1#32
  let v1294 : BitVec 32 := Scalar.muli v7 c1_i32_1156
  let v1295 : BitVec 32 := Scalar.addi c0_i32_1157 v1294
  v1295.toNat
def k1_dev39 (d0 : Dev nD) : Nat :=
  let c0_i32_1183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1182 : BitVec 32 := 1#32
  let v1322 : BitVec 32 := Scalar.muli v5 c1_i32_1182
  let v1323 : BitVec 32 := Scalar.addi c0_i32_1183 v1322
  v1323.toNat
def k1_dev40 (d0 : Dev nD) : Nat :=
  let c0_i32_1209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1208 : BitVec 32 := 1#32
  let v1350 : BitVec 32 := Scalar.muli v5 c1_i32_1208
  let v1351 : BitVec 32 := Scalar.addi c0_i32_1209 v1350
  v1351.toNat
def k1_dev41 (d0 : Dev nD) : Nat :=
  let c0_i32_1235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1234 : BitVec 32 := 1#32
  let v1378 : BitVec 32 := Scalar.muli v7 c1_i32_1234
  let v1379 : BitVec 32 := Scalar.addi c0_i32_1235 v1378
  v1379.toNat
def k1_dev42 (d0 : Dev nD) : Nat :=
  let c0_i32_1261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1260 : BitVec 32 := 1#32
  let v1406 : BitVec 32 := Scalar.muli v7 c1_i32_1260
  let v1407 : BitVec 32 := Scalar.addi c0_i32_1261 v1406
  v1407.toNat
def k1_dev43 (d0 : Dev nD) : Nat :=
  let c0_i32_1287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1286 : BitVec 32 := 1#32
  let v1434 : BitVec 32 := Scalar.muli v5 c1_i32_1286
  let v1435 : BitVec 32 := Scalar.addi c0_i32_1287 v1434
  v1435.toNat
def k1_dev44 (d0 : Dev nD) : Nat :=
  let c0_i32_1313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1312 : BitVec 32 := 1#32
  let v1462 : BitVec 32 := Scalar.muli v5 c1_i32_1312
  let v1463 : BitVec 32 := Scalar.addi c0_i32_1313 v1462
  v1463.toNat
def k1_dev45 (d0 : Dev nD) : Nat :=
  let c0_i32_1339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1338 : BitVec 32 := 1#32
  let v1490 : BitVec 32 := Scalar.muli v7 c1_i32_1338
  let v1491 : BitVec 32 := Scalar.addi c0_i32_1339 v1490
  v1491.toNat
def k1_dev46 (d0 : Dev nD) : Nat :=
  let c0_i32_1365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1364 : BitVec 32 := 1#32
  let v1518 : BitVec 32 := Scalar.muli v7 c1_i32_1364
  let v1519 : BitVec 32 := Scalar.addi c0_i32_1365 v1518
  v1519.toNat
def k1_dev47 (d0 : Dev nD) : Nat :=
  let c0_i32_1391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1390 : BitVec 32 := 1#32
  let v1546 : BitVec 32 := Scalar.muli v5 c1_i32_1390
  let v1547 : BitVec 32 := Scalar.addi c0_i32_1391 v1546
  v1547.toNat
def k1_dev48 (d0 : Dev nD) : Nat :=
  let c0_i32_1417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1416 : BitVec 32 := 1#32
  let v1574 : BitVec 32 := Scalar.muli v5 c1_i32_1416
  let v1575 : BitVec 32 := Scalar.addi c0_i32_1417 v1574
  v1575.toNat
def k1_dev49 (d0 : Dev nD) : Nat :=
  let c0_i32_1443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1442 : BitVec 32 := 1#32
  let v1602 : BitVec 32 := Scalar.muli v7 c1_i32_1442
  let v1603 : BitVec 32 := Scalar.addi c0_i32_1443 v1602
  v1603.toNat
def k1_dev50 (d0 : Dev nD) : Nat :=
  let c0_i32_1469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1468 : BitVec 32 := 1#32
  let v1630 : BitVec 32 := Scalar.muli v7 c1_i32_1468
  let v1631 : BitVec 32 := Scalar.addi c0_i32_1469 v1630
  v1631.toNat
def k1_dev51 (d0 : Dev nD) : Nat :=
  let c0_i32_1495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1494 : BitVec 32 := 1#32
  let v1658 : BitVec 32 := Scalar.muli v5 c1_i32_1494
  let v1659 : BitVec 32 := Scalar.addi c0_i32_1495 v1658
  v1659.toNat
def k1_dev52 (d0 : Dev nD) : Nat :=
  let c0_i32_1521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1520 : BitVec 32 := 1#32
  let v1686 : BitVec 32 := Scalar.muli v5 c1_i32_1520
  let v1687 : BitVec 32 := Scalar.addi c0_i32_1521 v1686
  v1687.toNat
def k1_dev53 (d0 : Dev nD) : Nat :=
  let c0_i32_1547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1546 : BitVec 32 := 1#32
  let v1714 : BitVec 32 := Scalar.muli v7 c1_i32_1546
  let v1715 : BitVec 32 := Scalar.addi c0_i32_1547 v1714
  v1715.toNat
def k1_dev54 (d0 : Dev nD) : Nat :=
  let c0_i32_1573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1572 : BitVec 32 := 1#32
  let v1742 : BitVec 32 := Scalar.muli v7 c1_i32_1572
  let v1743 : BitVec 32 := Scalar.addi c0_i32_1573 v1742
  v1743.toNat
def k1_dev55 (d0 : Dev nD) : Nat :=
  let c0_i32_1599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1598 : BitVec 32 := 1#32
  let v1770 : BitVec 32 := Scalar.muli v5 c1_i32_1598
  let v1771 : BitVec 32 := Scalar.addi c0_i32_1599 v1770
  v1771.toNat
def k1_dev56 (d0 : Dev nD) : Nat :=
  let c0_i32_1625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1624 : BitVec 32 := 1#32
  let v1798 : BitVec 32 := Scalar.muli v5 c1_i32_1624
  let v1799 : BitVec 32 := Scalar.addi c0_i32_1625 v1798
  v1799.toNat
def k1_dev57 (d0 : Dev nD) : Nat :=
  let c0_i32_1651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1650 : BitVec 32 := 1#32
  let v1826 : BitVec 32 := Scalar.muli v7 c1_i32_1650
  let v1827 : BitVec 32 := Scalar.addi c0_i32_1651 v1826
  v1827.toNat
def k1_dev58 (d0 : Dev nD) : Nat :=
  let c0_i32_1677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1676 : BitVec 32 := 1#32
  let v1854 : BitVec 32 := Scalar.muli v7 c1_i32_1676
  let v1855 : BitVec 32 := Scalar.addi c0_i32_1677 v1854
  v1855.toNat
def k1_dev59 (d0 : Dev nD) : Nat :=
  let c0_i32_1703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1702 : BitVec 32 := 1#32
  let v1882 : BitVec 32 := Scalar.muli v5 c1_i32_1702
  let v1883 : BitVec 32 := Scalar.addi c0_i32_1703 v1882
  v1883.toNat
def k1_dev60 (d0 : Dev nD) : Nat :=
  let c0_i32_1729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1728 : BitVec 32 := 1#32
  let v1910 : BitVec 32 := Scalar.muli v5 c1_i32_1728
  let v1911 : BitVec 32 := Scalar.addi c0_i32_1729 v1910
  v1911.toNat
def k1_dev61 (d0 : Dev nD) : Nat :=
  let c0_i32_1755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1754 : BitVec 32 := 1#32
  let v1938 : BitVec 32 := Scalar.muli v7 c1_i32_1754
  let v1939 : BitVec 32 := Scalar.addi c0_i32_1755 v1938
  v1939.toNat
def k1_dev62 (d0 : Dev nD) : Nat :=
  let c0_i32_1781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1780 : BitVec 32 := 1#32
  let v1966 : BitVec 32 := Scalar.muli v7 c1_i32_1780
  let v1967 : BitVec 32 := Scalar.addi c0_i32_1781 v1966
  v1967.toNat
abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S1024x1024 : Shape := ⟨2, ![1024, 1024]⟩
abbrev S1024x32768 : Shape := ⟨2, ![1024, 32768]⟩
abbrev S32768x1024 : Shape := ⟨2, ![32768, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x32768, .f32⟩
  | .hbm, ⟨2, _⟩ => ⟨S1024x32768, .f32⟩
  | .hbm, ⟨3, _⟩ => ⟨S32768x1024, .f32⟩
  | .hbm, ⟨4, _⟩ => ⟨S1024x32768, .f32⟩
  | .hbm, ⟨5, _⟩ => ⟨S1024x32768, .f32⟩
  | .hbm, ⟨6, _⟩ => ⟨S1024x32768, .f32⟩
  | .hbm, ⟨7, _⟩ => ⟨S1024x32768, .f32⟩
  | .hbm, ⟨8, _⟩ => ⟨S_, .f32⟩
  | .hbm, ⟨9, _⟩ => ⟨S1024x32768, .f32⟩
  | .hbm, ⟨10, _⟩ => ⟨S1024x32768, .f32⟩
  | .hbm, ⟨11, _⟩ => ⟨S1024x32768, .f32⟩
  | .hbm, ⟨12, _⟩ => ⟨S1024x32768, .f32⟩
  | .hbm, ⟨13, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Kernel.Walk.lean ====
/-
  The line can be walked: the decision that the tokens suffice at every step.
-/
module

public import proofs.«01_k».proof.Proof.Kernel.Tokens

@[expose] public section

noncomputable section

namespace Cert.Kernel.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.Kernel.Gen

/-- The line can be walked, and the goal is reached. -/
theorem walks : ((walk ops start0).bind (take goal)).isSome = true := by decide +kernel

/-- The line starts every transfer once. -/
theorem owed_ops : (owed ops).Perm allX := by decide +kernel

end Cert.Kernel.Ring

end
-- ==== Proof.Kernel.Whole.lean ====
/-
  The printed body of the exchange is the list of steps, by definitional unfolding.
-/
module
public import proofs.«01_k».proof.Proof.Kernel.Steps
@[expose] public section
noncomputable section
namespace Cert.Kernel.Ring
open Idealize.ShloMosaic Idealize.ShloMosaic.TcCoe
open Idealize.SL.Sem
open Cert.Kernel.Gen
variable {F : FTy → Type} [FloatOps F]

/-- The printed body is the line. -/
theorem cc1_eq : cc1_body (F := F) pM (Memref.isWhole_whole _) oM (Memref.isWhole_whole _) rM (Memref.isWhole_whole _) lM (Memref.isWhole_whole _)
      cc1_scratch2 cc1_scratch3 cc1_scratch4 cc1_scratch5 cc1_scratch6 cc1_scratch7 cc1_scratch8 cc1_scratch9 = body (F := F) := by
  rw [cc1_body_eq_skeleton]
  chain_rfl

end Cert.Kernel.Ring

end
-- ==== Proof.KernelIdeal.Steps.lean ====
/-
  The exchange of partial sums as a list of steps.

  The second call's body is a straight line: two signals, a wait, a copy of the partial sum into the result buffer, and
  then sixty remote copies with their waits and thirty additions. This module names one step of that line by the remote
  copy ("transfer") it belongs to and shows that the printed body is the line.
-/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Ring

open Idealize.ShloMosaic Idealize.ShloMosaic.TcCoe
open Idealize.SL.Sem
open Cert.KernelIdeal.Gen

variable {F : FTy → Type} [FloatOps F]

/-- Rightward transfers run for eight steps, leftward ones for seven. -/
abbrev len : Bool → ℕ := fun b => cond b 8 7

/-- A remote copy: its phase (`ag = false`: partial sums are being added up; `ag = true`: finished rows are handed round),
    its direction (`rt = true`: to the right neighbour), its step, and which half of the 64-row chunk it carries. -/
structure Xfer where
  ag : Bool
  rt : Bool
  s : Fin (len rt)
  h : Fin 2
  deriving DecidableEq

/-- No direction runs for more than eight steps. -/
theorem len_le (b : Bool) : len b ≤ 8 := by cases b <;> decide

/-- A transfer's place in its array of semaphores. -/
def Xfer.ix (t : Xfer) : ℕ := 2 * t.s.val + t.h.val

/-- A transfer's place is within its array of semaphores. -/
theorem ix_lt (b : Bool) (s : Fin (len b)) (h : Fin 2) : 2 * s.val + h.val < 2 * len b := by
  have := s.isLt; have := h.isLt; omega

/-- A place among sixteen semaphores. -/
theorem inb16 (s : Fin 8) (h : Fin 2) : ∀ a, (![2 * s.val + h.val] : Fin 1 → ℕ) a + S1.size a ≤ S16.size a := by
  intro a; have := s.isLt; have := h.isLt
  fin_cases a; show 2 * s.val + h.val + 1 ≤ 16; omega
/-- A place among fourteen semaphores. -/
theorem inb14 (s : Fin 7) (h : Fin 2) : ∀ a, (![2 * s.val + h.val] : Fin 1 → ℕ) a + S1.size a ≤ S14.size a := by
  intro a; have := s.isLt; have := h.isLt
  fin_cases a; show 2 * s.val + h.val + 1 ≤ 14; omega
/-- A slot lies within the first receive buffer. -/
theorem inbR (s : Fin 8) (h : Fin 2) : ∀ a, (![2 * s.val + h.val, 0, 0] : Fin 3 → ℕ) a + S1x32x1024.size a ≤ S16x32x1024.size a := by
  revert s h; decide
/-- A slot lies within the second receive buffer. -/
theorem inbL (s : Fin 7) (h : Fin 2) : ∀ a, (![2 * s.val + h.val, 0, 0] : Fin 3 → ℕ) a + S1x32x1024.size a ≤ S14x32x1024.size a := by
  revert s h; decide

/-- One semaphore of an array of sixteen, of an array of fourteen. -/
abbrev at16 (A : DmaSems sig S16) (s : Fin 8) (h : Fin 2) : DmaSem sig :=
  ((A.slice (Rect.unit (s := S16) ![2 * s.val + h.val] S1.size (inb16 s h))).squeeze S_ squeezes_S1_S_).sem
/-- One semaphore of an array of fourteen. -/
abbrev at14 (A : DmaSems sig S14) (s : Fin 7) (h : Fin 2) : DmaSem sig :=
  ((A.slice (Rect.unit (s := S14) ![2 * s.val + h.val] S1.size (inb14 s h))).squeeze S_ squeezes_S1_S_).sem

/-- The semaphore a transfer's sender waits on. -/
abbrev sendSem : Xfer → DmaSem sig
  | ⟨false, true, s, h⟩ => at16 cc1_scratch2 s h
  | ⟨false, false, s, h⟩ => at14 cc1_scratch4 s h
  | ⟨true, true, s, h⟩ => at16 cc1_scratch6 s h
  | ⟨true, false, s, h⟩ => at14 cc1_scratch8 s h
/-- The semaphore a transfer's receiver waits on. -/
abbrev recvSem : Xfer → DmaSem sig
  | ⟨false, true, s, h⟩ => at16 cc1_scratch3 s h
  | ⟨false, false, s, h⟩ => at14 cc1_scratch5 s h
  | ⟨true, true, s, h⟩ => at16 cc1_scratch7 s h
  | ⟨true, false, s, h⟩ => at14 cc1_scratch9 s h

/-- The four buffers the body works on. -/
abbrev pM : Memref sig .tc .vmem S1024x1024 .f32 := Memref.whole cc1_stg0_0
/-- The result buffer. -/
abbrev oM : Memref sig .tc .vmem S1024x1024 .f32 := Memref.whole cc1_stg1_0
/-- The buffer that rows from the left neighbour land in. -/
abbrev rM : Memref sig .tc .vmem S16x32x1024 .f32 := Memref.whole cc1_scratch0
/-- The buffer that rows from the right neighbour land in. -/
abbrev lM : Memref sig .tc .vmem S14x32x1024 .f32 := Memref.whole cc1_scratch1

/-- The word of a chunk's distance `k` from the device that computes with it, `k` written modulo 16 as `0 … 15`, and by
    how much it is shifted when it counts from below zero. -/
abbrev srcWord : Xfer → BitVec 32
  | ⟨false, true, s, _⟩ => BitVec.ofNat 32 (8 - s.val)
  | ⟨false, false, s, _⟩ => BitVec.ofNat 32 (4294967289 + s.val)
  | ⟨true, true, s, _⟩ => BitVec.ofNat 32 (4294967296 - s.val)
  | ⟨true, false, s, _⟩ => BitVec.ofNat 32 s.val
/-- The word of the chunk that received rows are added to. -/
abbrev addWord : Xfer → BitVec 32
  | ⟨_, true, s, _⟩ => BitVec.ofNat 32 (7 - s.val)
  | ⟨_, false, s, _⟩ => BitVec.ofNat 32 (4294967290 + s.val)
/-- The word of a half's first row within its chunk. -/
abbrev halfWord (h : Fin 2) : BitVec 32 := BitVec.ofNat 32 (32 * h.val)

/-- Which chunk, counted from the device, a transfer carries; and which one the received rows are added to. -/
def srcOff : Xfer → ℕ
  | ⟨false, true, s, _⟩ => 8 - s.val
  | ⟨false, false, s, _⟩ => 9 + s.val
  | ⟨true, true, s, _⟩ => (16 - s.val) % 16
  | ⟨true, false, s, _⟩ => s.val
/-- Which chunk, counted from the device, received rows are added to. -/
def addOff : Xfer → ℕ
  | ⟨_, true, s, _⟩ => 7 - s.val
  | ⟨_, false, s, _⟩ => (10 + s.val) % 16
/-- Which chunk, counted from the device it lands on, a transfer of finished rows carries. -/
def rcvOff : Xfer → ℕ
  | ⟨_, true, s, _⟩ => 15 - s.val
  | ⟨_, false, s, _⟩ => 1 + s.val

/-- The first row of half `h` of chunk `c`. -/
def row (c : ℕ) (h : Fin 2) : ℕ := 64 * (c % 16) + 32 * h.val

/-- The body's offset of a chunk, in closed form. -/
theorem off1_word (d : Dev nD) (k : Fin 16) (h : Fin 2) :
    k1_off1 d (BitVec.ofNat 32 k.val) (halfWord h) = ![row (d.val + k.val) h, 0]
      ∧ k1_off1 d (BitVec.ofNat 32 (4294967280 + k.val)) (halfWord h) = ![row (d.val + k.val) h, 0]
      ∧ k1_off2 d (BitVec.ofNat 32 k.val) (halfWord h) = ![row (d.val + k.val) h, 0]
      ∧ k1_off2 d (BitVec.ofNat 32 (4294967280 + k.val)) (halfWord h) = ![row (d.val + k.val) h, 0] := by
  revert d k h; decide +kernel

/-- The offset of the rows that a transfer reads. -/
theorem off_src (d : Dev nD) (t : Xfer) : k1_off1 d (srcWord t) (halfWord t.h) = ![row (d.val + srcOff t) t.h, 0] := by
  obtain ⟨ag, rt, s, h⟩ := t
  revert d h; revert s; revert ag rt; decide +kernel
/-- The offset of the rows that received rows are added to. -/
theorem off_add (d : Dev nD) (t : Xfer) : k1_off2 d (addWord t) (halfWord t.h) = ![row (d.val + addOff t) t.h, 0] := by
  obtain ⟨ag, rt, s, h⟩ := t
  revert d h; revert s; revert ag rt; decide +kernel

/-- A half chunk lies within the array. -/
theorem row_inb (c : ℕ) (h : Fin 2) : ∀ a, (![row c h, 0] : Fin 2 → ℕ) a + S32x1024.size a ≤ S1024x1024.size a := by
  intro a; have := h.isLt; have := Nat.mod_lt c (show 0 < 16 by decide)
  fin_cases a
  · show row c h + 32 ≤ 1024; unfold row; omega
  · show 0 + 1024 ≤ 1024; omega
/-- The rows that a transfer reads lie within the array. -/
theorem inb_src (d : Dev nD) (t : Xfer) : ∀ a, k1_off1 d (srcWord t) (halfWord t.h) a + S32x1024.size a ≤ S1024x1024.size a := by
  rw [off_src]; exact row_inb _ _
/-- The rows that received rows are added to lie within the array. -/
theorem inb_add (d : Dev nD) (t : Xfer) : ∀ a, k1_off2 d (addWord t) (halfWord t.h) a + S32x1024.size a ≤ S1024x1024.size a := by
  rw [off_add]; exact row_inb _ _

/-- The neighbour a transfer goes to. -/
abbrev tgt (rt : Bool) (d : Dev nD) : Dev nD := cond rt ⟨k1_dev3 d, k1_dev3_lt d⟩ ⟨k1_dev4 d, k1_dev4_lt d⟩

/-- The rows a transfer carries, as the body writes them. -/
abbrev srcM (d : Dev nD) (t : Xfer) : Memref sig .tc .vmem S32x1024 .f32 :=
  oM.slice (Rect.unit (s := S1024x1024) (k1_off1 d (srcWord t) (halfWord t.h)) S32x1024.size (inb_src d t)) (fun _ => rfl)
/-- The slot a transfer of partial sums lands in. -/
abbrev slotM : (rt : Bool) → (s : Fin (len rt)) → (h : Fin 2) → Memref sig .tc .vmem S32x1024 .f32
  | true, s, h => (rM.slice (Rect.unit (s := S16x32x1024) ![2 * s.val + h.val, 0, 0] S1x32x1024.size (inbR s h)) (fun _ => rfl)).squeeze S32x1024 squeezes_S1x32x1024_S32x1024
  | false, s, h => (lM.slice (Rect.unit (s := S14x32x1024) ![2 * s.val + h.val, 0, 0] S1x32x1024.size (inbL s h)) (fun _ => rfl)).squeeze S32x1024 squeezes_S1x32x1024_S32x1024
/-- Where a transfer lands on the neighbour. -/
abbrev dstM (d : Dev nD) (t : Xfer) : Memref sig .tc .vmem S32x1024 .f32 :=
  cond t.ag (srcM d t) (slotM t.rt t.s t.h)

/-- A step of the line. -/
inductive Op where
  /-- Start a transfer. -/
  | start (t : Xfer)
  /-- Wait until the transfer named `t` has arrived here. -/
  | wait (t : Xfer)
  /-- Add what arrived to the own rows. -/
  | fold (t : Xfer)
  /-- Wait until the own transfer named `t` has left. -/
  | done (t : Xfer)
  /-- Nothing: here a half chunk is finished and its handing round begins. -/
  | turn (h : Fin 2)

/-- Loading what arrived in a slot, then `k`. -/
abbrev loadSlot : (rt : Bool) → (s : Fin (len rt)) → (h : Fin 2) → (Vec F S1x32x1024 .f32 → Prog (TpuEff nD τ sig (Elt F) Λ₀ .tc) PUnit)
    → Prog (TpuEff nD τ sig (Elt F) Λ₀ .tc) PUnit
  | true, s, h, k => .op (.load rM (Rect.unit (s := S16x32x1024) ![2 * s.val + h.val, 0, 0] S1x32x1024.size (inbR s h)).toLoadRect (View.loadsAt_vmem h_S1x32x1024)) k
  | false, s, h, k => .op (.load lM (Rect.unit (s := S14x32x1024) ![2 * s.val + h.val, 0, 0] S1x32x1024.size (inbL s h)).toLoadRect (View.loadsAt_vmem h_S1x32x1024)) k

/-- A step's operations on device `d`, then `k`. -/
abbrev Op.prog (d : Dev nD) (k : Prog (TpuEff nD τ sig (Elt F) Λ₀ .tc) PUnit) : Op → Prog (TpuEff nD τ sig (Elt F) Λ₀ .tc) PUnit
  | .start t => .op (.enqueueDma (srcM d t) (.remote (Dev.tc (tgt t.rt d)) (dstM d t) (.dma (sendSem t))) (.dma (recvSem t))
      (View.wordExact_bits rfl) (View.wordExact_bits rfl) ⟨⟨rfl, Or.inl rfl⟩, trivial⟩) fun _ => k
  | .wait t => .op (.waitDma2 (recvSem t) (srcM d t) (dstM d t) (View.wordExact_bits rfl) (View.wordExact_bits rfl)) fun _ => k
  | .fold t =>
      .op (.load oM (Rect.unit (s := S1024x1024) (k1_off2 d (addWord t) (halfWord t.h)) S32x1024.size (inb_add d t)).toLoadRect (View.loadsAt_vmem h_S32x1024)) fun u =>
      loadSlot t.rt t.s t.h fun v =>
      .op (.load oM (Rect.unit (s := S1024x1024) (k1_off2 d (addWord t) (halfWord t.h)) S32x1024.size (inb_add d t)).toLoadRect (View.loadsAt_vmem h_S32x1024)) fun _ =>
      .op (.store oM (Rect.unit (s := S1024x1024) (k1_off2 d (addWord t) (halfWord t.h)) S32x1024.size (inb_add d t)) (k1_pay2 u v) Finset.univ (View.stores_vmem_bits_univ h_S32x1024 rfl) (.inl rfl)) fun _ => k
  | .done t => .op (.waitDma2 (sendSem t) (dstM d t) (srcM d t) (View.wordExact_bits rfl) (View.wordExact_bits rfl)) fun _ => k
  | .turn _ => k

/-- A list of steps, one after the other, then the end. -/
abbrev line (d : Dev nD) : List Op → Prog (TpuEff nD τ sig (Elt F) Λ₀ .tc) PUnit
  | [] => .ret ⟨⟩
  | o :: os => o.prog d (line d os)

/-- The steps following step `s`'s arrival in direction `rt`, for both halves. -/
def afterRs (rt : Bool) (s : ℕ) : List Op :=
  if hs : s < len rt then
    (List.finRange 2).flatMap fun h =>
      [.wait ⟨false, rt, ⟨s, hs⟩, h⟩, .fold ⟨false, rt, ⟨s, hs⟩, h⟩] ++ if hs' : s + 1 < len rt then [.start ⟨false, rt, ⟨s + 1, hs'⟩, h⟩] else []
  else []
def afterAg (rt : Bool) (s : ℕ) : List Op :=
  if hs : s < len rt then
    (List.finRange 2).flatMap fun h =>
      [.wait ⟨true, rt, ⟨s, hs⟩, h⟩] ++ if hs' : s + 1 < len rt then [.start ⟨true, rt, ⟨s + 1, hs'⟩, h⟩] else []
  else []
/-- The first transfers of a phase. -/
def firsts (ag : Bool) : List Op :=
  (List.finRange 2).flatMap fun h => [.start ⟨ag, true, ⟨0, by decide⟩, h⟩, .start ⟨ag, false, ⟨0, by decide⟩, h⟩]

/-- The steps of the first phase. -/
def rsOps : List Op := firsts false ++ (List.range 8).flatMap fun s => afterRs true s ++ afterRs false s
/-- The steps of the second phase. -/
def agOps : List Op := [.turn 0, .turn 1] ++ firsts true ++ (List.range 8).flatMap fun s => afterAg true s ++ afterAg false s
/-- Every started transfer is waited for at the end, in the order of the starts. -/
def doneOps : List Op := (rsOps ++ agOps).filterMap fun | .start t => some (.done t) | _ => none

/-- The whole line. -/
def ops : List Op := rsOps ++ agOps ++ doneOps

/-- The semaphore neighbours meet on. -/
abbrev barSem : Sem sig := (SemArray.scalar (d := 0) (sig.barrier 0 rfl)).sem

/-- The body: the meeting with both neighbours, the copy of the partial sum, the line. -/
abbrev body : Prog (TpuEff nD τ sig (Elt F) Λ₀ .tc) PUnit :=
  .op .deviceId fun d : Dev nD =>
  .op (.semSignal (Dev.tc (tgt false d)) barSem 1) fun _ =>
  .op (.semSignal (Dev.tc (tgt true d)) barSem 1) fun _ =>
  .op (.semWait barSem 2) fun _ =>
  .op (.load pM (Rect.unit (s := S1024x1024) ![0, 0] S1024x1024.size inb_S1024x1024_S1024x1024_0_0).toLoadRect (View.loadsAt_vmem h_S1024x1024)) fun v =>
  .op (.load oM (Rect.unit (s := S1024x1024) ![0, 0] S1024x1024.size inb_S1024x1024_S1024x1024_0_0).toLoadRect (View.loadsAt_vmem h_S1024x1024)) fun _ =>
  .op (.store oM (Rect.unit (s := S1024x1024) ![0, 0] S1024x1024.size inb_S1024x1024_S1024x1024_0_0) (k1_pay1 v) Finset.univ (View.stores_vmem_bits_univ h_S1024x1024 rfl) (.inl rfl)) fun _ =>
  line d ops

end Cert.KernelIdeal.Ring

end
-- ==== Proof.KernelIdeal.Rows.lean ====
/-
  The rows that travel, and what they hold.

  The result buffer is sixteen chunks of two halves of 32 rows. Every device's partial sum is a whole array; a chunk's sum
  grows along the two directions, and the finished array is the same on every device.
-/
module

public import proofs.«01_k».proof.Proof.KernelIdeal.Steps
public import Idealize.ShloMosaic.Lib.Pipeline.ValueKit.Geometry

@[expose] public section

noncomputable section

namespace Cert.KernelIdeal.Ring

open Idealize.ShloMosaic Idealize.ShloMosaic.TcCoe
open Idealize.SL.Sem
open Cert.KernelIdeal.Gen

variable {F : FTy → Type} [FloatOps F]

/-! ## Devices and rows -/

/-- The device at place `n` of the ring. -/
def dev (n : ℕ) : Dev nD := ⟨n % 16, Nat.mod_lt _ (by decide)⟩

/-- A device's number names it. -/
theorem dev_val (d : Dev nD) : dev d.val = d := Fin.ext (Nat.mod_eq_of_lt d.isLt)
/-- Devices are numbered modulo sixteen. -/
theorem dev_congr {m n : ℕ} (h : m % 16 = n % 16) : dev m = dev n := Fin.ext h

/-- The right neighbour is one further. -/
theorem tgt_true (d : Dev nD) : tgt true d = dev (d.val + 1) := by revert d; decide
/-- The left neighbour is fifteen further. -/
theorem tgt_false (d : Dev nD) : tgt false d = dev (d.val + 15) := by revert d; decide
/-- To a neighbour and back is where one was. -/
theorem tgt_tgt (b : Bool) (d : Dev nD) : tgt (!b) (tgt b d) = d := by revert b d; decide
/-- The same, the other way first. -/
theorem tgt_tgt' (b : Bool) (d : Dev nD) : tgt b (tgt (!b) d) = d := by revert b d; decide

/-- A chunk's first row depends on its number modulo sixteen. -/
theorem row_congr {m n : ℕ} (h : m % 16 = n % 16) (x : Fin 2) : row m x = row n x := by unfold row; rw [h]

/-- Half `h` of chunk `c` of the result buffer. -/
abbrev rowM (c : ℕ) (h : Fin 2) : Memref sig .tc .vmem S32x1024 .f32 :=
  oM.slice (Rect.unit (s := S1024x1024) ![row c h, 0] S32x1024.size (row_inb c h)) (fun _ => rfl)

/-- So do its rows. -/
theorem rowM_congr {m n : ℕ} (h : m % 16 = n % 16) (x : Fin 2) : rowM m x = rowM n x := by
  unfold rowM; congr 2; simp only [row_congr h]

/-- Slices at equal offsets are equal. -/
theorem slice_congr {o o' : Fin 2 → ℕ} (e : o = o') (h : ∀ a, o a + S32x1024.size a ≤ S1024x1024.size a) (h' : ∀ a, o' a + S32x1024.size a ≤ S1024x1024.size a) :
    oM.slice (Rect.unit (s := S1024x1024) o S32x1024.size h) (fun _ => rfl) = oM.slice (Rect.unit (s := S1024x1024) o' S32x1024.size h') (fun _ => rfl) := by
  subst e; rfl

/-- The rows that a transfer reads are those of its chunk. -/
theorem srcM_eq (d : Dev nD) (t : Xfer) : srcM d t = rowM (d.val + srcOff t) t.h := slice_congr (off_src d t) _ _

/-- The elements of a half chunk. -/
abbrev rowSet (c : ℕ) (h : Fin 2) : Finset S1024x1024.Idx := (rowM c h).view.set

/-- Which entries the rows of a half chunk are. -/
theorem mem_rowSet {c : ℕ} {h : Fin 2} {i : S1024x1024.Idx} : i ∈ rowSet c h ↔ row c h ≤ (i 0).val ∧ (i 0).val < row c h + 32 := by
  show i ∈ ((View.whole cc1_stg1_0).slice (Rect.unit (s := S1024x1024) ![row c h, 0] S32x1024.size (row_inb c h))).set ↔ _
  rw [View.set_slice_whole]
  refine Rect.mem_set_unit.trans ⟨fun H => H 0, fun H a => ?_⟩
  match a with
  | 0 => exact H
  | 1 => exact ⟨Nat.zero_le _, (i 1).isLt⟩

/-- Chunk and half are read off a row's number. -/
theorem mem_rowSet' {c : ℕ} {h : Fin 2} {i : S1024x1024.Idx} : i ∈ rowSet c h ↔ (i 0).val / 64 = c % 16 ∧ (i 0).val / 32 % 2 = h.val := by
  rw [mem_rowSet]; unfold row
  have := h.isLt; have := Nat.mod_lt c (show 0 < 16 by decide)
  omega

/-- Different half chunks share no entry. -/
theorem rowSet_disjoint {c c' : Fin 16} {h h' : Fin 2} (hne : (c, h) ≠ (c', h')) : Disjoint (rowSet c.val h) (rowSet c'.val h') := by
  refine Finset.disjoint_left.mpr fun i hi hi' => hne ?_
  rw [mem_rowSet'] at hi hi'
  have := c.isLt; have := c'.isLt
  refine Prod.ext (Fin.ext ?_) (Fin.ext ?_) <;> (try simp only []) <;> omega

/-- Where an index of a half chunk lies. -/
theorem rowM_emb_0 (c : ℕ) (h : Fin 2) (x : S32x1024.Idx) : (((rowM c h).view.emb x : S1024x1024.Idx) 0).val = row c h + (x 0).val :=
  ValueKit.view_emb_slice_whole_unit_val cc1_stg1_0 _ _ _ x 0
/-- A half chunk keeps the columns. -/
theorem rowM_emb_1 (c : ℕ) (h : Fin 2) (x : S32x1024.Idx) : (((rowM c h).view.emb x : S1024x1024.Idx) 1).val = (x 1).val :=
  (ValueKit.view_emb_slice_whole_unit_val cc1_stg1_0 ![row c h, 0] S32x1024.size (row_inb c h) x 1).trans (Nat.zero_add _)

/-! ## Contents -/

variable (P : Dev nD → Vec F S1024x1024 .f32)

/-- Which device's partial sum joins a chunk's sum at step `j`, in each direction. -/
def who (rt : Bool) (c j : ℕ) : ℕ := cond rt (c + 8 + j) (c + 23 - j)

/-- A chunk's sum after `j` additions in one direction (the rows of chunk `c` of this array). -/
def acc (rt : Bool) (c : ℕ) : ℕ → Vec F S1024x1024 .f32
  | 0 => P (dev (who rt c 0))
  | j + 1 => addf (P (dev (who rt c (j + 1)))) (acc rt c j)

/-- A chunk's sum depends on its number modulo sixteen. -/
theorem acc_congr (rt : Bool) {c c' : ℕ} (h : c % 16 = c' % 16) (j : ℕ) (hj : j ≤ 8) : acc P rt c j = acc P rt c' j := by
  have hw (k : ℕ) (hk : k ≤ 8) : dev (who rt c k) = dev (who rt c' k) := dev_congr (by cases rt <;> simp only [who, cond] <;> omega)
  induction j with
  | zero => show P _ = P _; rw [hw 0 (by omega)]
  | succ j ih => show addf _ _ = addf _ _; rw [hw (j + 1) hj, ih (by omega)]

/-- The finished array: both directions' sums, chunk by chunk. -/
def total : Vec F S1024x1024 .f32 := fun i => addf (acc P false ((i 0).val / 64) 7) (acc P true ((i 0).val / 64) 7) i

/-- On a chunk's rows the finished array is the sum of the two directions' sums. -/
theorem total_row (d : Dev nD) (h : Fin 2) (i : S1024x1024.Idx) (hi : i ∈ rowSet d.val h) :
    total P i = addf (acc P false d.val 7) (acc P true d.val 7) i := by
  rw [mem_rowSet'] at hi
  have hd : d.val < 16 := d.isLt
  have e : (i 0).val / 64 = d.val := by omega
  unfold total; rw [e]

end Cert.KernelIdeal.Ring

end
-- ==== Proof.KernelIdeal.Cells.lean ====
/-
  The semaphores of the exchange: who pays each, how much, and what a payment hands over.

  Every semaphore is used for one round. The meeting semaphore of a device is paid one unit by each neighbour; a neighbour
  hands over the slots that this device will write on it, and that its receive semaphores are open. A receive semaphore is paid by the
  copy that lands: it hands over what landed, and the outdated copies of that half chunk on the devices it has already passed.
  A send semaphore of the second phase gives the sender its rows back.
-/
module

public import proofs.«01_k».proof.Proof.KernelIdeal.Rows
public import Idealize.ShloMosaic.Lib.Rounds
public import Idealize.ShloMosaic.Lib.Memref
public import Idealize.ShloMosaic.Lib.Pipeline.TalkSites
public import Idealize.ShloMosaic.Lib.Pipeline.Kit

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

/-! ## All transfers -/

/-- Every transfer once. -/
def allX : List Xfer :=
  [false, true].flatMap fun ag => [true, false].flatMap fun rt => (List.finRange (len rt)).flatMap fun s => (List.finRange 2).map fun h => ⟨ag, rt, s, h⟩

/-- The list holds every transfer. -/
theorem mem_allX (t : Xfer) : t ∈ allX := by
  obtain ⟨ag, rt, s, h⟩ := t
  simp only [allX, List.mem_flatMap, List.mem_map]
  exact ⟨ag, by cases ag <;> simp, rt, by cases rt <;> simp, s, List.mem_finRange s, h, List.mem_finRange h, rfl⟩
/-- It holds none twice. -/
theorem allX_nodup : allX.Nodup := by decide +kernel

instance : Fintype Xfer := ⟨⟨allX, allX_nodup⟩, mem_allX⟩

/-! ## Cells -/

/-- The kinds of semaphore of the exchange. -/
inductive Kd where
  | bar
  | snd (t : Xfer)
  | rcv (t : Xfer)
  deriving DecidableEq

/-- The semaphore of a kind. -/
abbrev semOf : Kd → SemLoc sig
  | .bar => .reg barSem
  | .snd t => .dma (sendSem t)
  | .rcv t => .dma (recvSem t)

/-- The semaphores' numbers. -/
def num : Kd → ℕ
  | .bar => 0
  | .snd t => cond t.ag (cond t.rt 70 102) (cond t.rt 10 42) + t.ix
  | .rcv t => cond t.ag (cond t.rt 86 116) (cond t.rt 26 56) + t.ix

/-- The number of a transfer's send semaphore. -/
theorem num_send (t : Xfer) : (sendSem t).val = num (.snd t) := by revert t; decide +kernel
/-- The number of its receive semaphore. -/
theorem num_recv (t : Xfer) : (recvSem t).val = num (.rcv t) := by revert t; decide +kernel

/-- Different transfers' semaphores have different numbers. -/
theorem num_inj : ∀ t u : Xfer, (num (.snd t) = num (.snd u) → t = u) ∧ (num (.rcv t) = num (.rcv u) → t = u) ∧ num (.snd t) ≠ num (.rcv u) := by
  decide +kernel

/-- Different kinds are different semaphores. -/
theorem semOf_inj : Function.Injective semOf := fun a b h => by
  match a, b with
  | .bar, .bar => rfl
  | .bar, .snd _ => cases h
  | .bar, .rcv _ => cases h
  | .snd _, .bar => cases h
  | .rcv _, .bar => cases h
  | .snd t, .snd u => exact congrArg _ ((num_inj t u).1 (by rw [← num_send, ← num_send]; exact congrArg Fin.val (SemLoc.dma.inj h)))
  | .rcv t, .rcv u => exact congrArg _ ((num_inj t u).2.1 (by rw [← num_recv, ← num_recv]; exact congrArg Fin.val (SemLoc.dma.inj h)))
  | .snd t, .rcv u => exact absurd (by rw [← num_send, ← num_recv]; exact congrArg Fin.val (SemLoc.dma.inj h)) (num_inj t u).2.2
  | .rcv t, .snd u => exact absurd (by rw [← num_send, ← num_recv]; exact congrArg Fin.val (SemLoc.dma.inj h.symm)) (num_inj u t).2.2

/-- Device `p.1`'s semaphore of kind `p.2`. -/
abbrev cellAt (p : Dev nD × Kd) : GSem nD τ sig := ((p.1 : Thread nD τ), semOf p.2)

/-- Different devices' or kinds' semaphores differ. -/
theorem cellAt_inj : Function.Injective cellAt := fun p q h => by
  have h1 : p.1 = q.1 := congrArg (fun g : GSem nD τ sig => g.1.1) h
  have h2 : semOf p.2 = semOf q.2 := congrArg Prod.snd h
  exact Prod.ext h1 (semOf_inj h2)

/-! ## Owned rows and slots -/

/-- The resource algebra: the regions' bookkeeping and the exchange's. -/
abbrev UU : Type := UR sig nD τ × URounds (GSem nD τ sig) Bool
local notation "𝕄" => MT nD τ sig ℕ (Elt F) ℕ UU ℕ
/-- Where the pipeline's share of the ghost state lies. -/
abbrev EP : Emb (UR sig nD τ) (MT nD τ sig ℕ (Elt F) ℕ UU ℕ) := embL
/-- Where the exchange's share of the ghost state lies. -/
abbrev ER : Emb (URounds (GSem nD τ sig) Bool) (MT nD τ sig ℕ (Elt F) ℕ UU ℕ) := embR

/-- A whole array's rows of half `h` of chunk `c`. -/
abbrev part (c : ℕ) (h : Fin 2) (A : Vec F S1024x1024 .f32) : Vec F S32x1024 .f32 := (rowM c h).view.read (Elt F) A

/-- Device `e` holds half `h` of chunk `c` of its result buffer at `X`; at anything. -/
def cellP (e : Dev nD) (c : ℕ) (h : Fin 2) (q : PosShare TreeShare) (X : Vec F S32x1024 .f32) : sProp 𝕄 := owns (e : Thread nD τ) (rowM c h) q X
/-- Device `e` holds half `h` of chunk `c` of its result buffer at some contents. -/
def cellAny (e : Dev nD) (c : ℕ) (h : Fin 2) : sProp 𝕄 := iprop(∃ X, cellP e c h fullShare X)
/-- Device `e` holds one of its slots at `X`; at anything. -/
def slotP (e : Dev nD) (rt : Bool) (s : Fin (len rt)) (h : Fin 2) (X : Vec F S32x1024 .f32) : sProp 𝕄 := owns (e : Thread nD τ) (slotM rt s h) fullShare X
/-- Device `e` holds one of its slots at some contents. -/
def slotAny (e : Dev nD) (rt : Bool) (s : Fin (len rt)) (h : Fin 2) : sProp 𝕄 := iprop(∃ X, slotP e rt s h X)

/-- Outdated copies of half `h` of chunk `c` on the devices `lo … hi` places to the right of the chunk's owner. -/
def stale (c : ℕ) (h : Fin 2) (lo hi : ℕ) : sProp 𝕄 := bigSep (Finset.Icc lo hi) fun k => cellAny (dev (c + k)) c h

instance (e : Dev nD) (c : ℕ) (h : Fin 2) (q : PosShare TreeShare) (X : Vec F S32x1024 .f32) : BI.Storable (upEmb : UEmb _ 𝕄) (cellP e c h q X) := by
  unfold cellP; infer_instance
instance (e : Dev nD) (c : ℕ) (h : Fin 2) : BI.Storable (upEmb : UEmb _ 𝕄) (cellAny (F := F) e c h) := by unfold cellAny; infer_instance
instance (e : Dev nD) (rt : Bool) (s : Fin (len rt)) (h : Fin 2) (X : Vec F S32x1024 .f32) : BI.Storable (upEmb : UEmb _ 𝕄) (slotP e rt s h X) := by
  unfold slotP; infer_instance
instance (e : Dev nD) (rt : Bool) (s : Fin (len rt)) (h : Fin 2) : BI.Storable (upEmb : UEmb _ 𝕄) (slotAny (F := F) e rt s h) := by unfold slotAny; infer_instance
instance (c : ℕ) (h : Fin 2) (lo hi : ℕ) : BI.Storable (upEmb : UEmb _ 𝕄) (stale (F := F) c h lo hi) := by unfold stale; infer_instance

/-! ## What payments hand over -/

variable (P : Dev nD → Vec F S1024x1024 .f32)

/-- Of which chunk, counted from the receiver, rows arrive. -/
def landOff (t : Xfer) : ℕ := cond t.ag (rcvOff t) (addOff t)

/-- Which outdated copies are with the sender before a transfer, and with the receiver after it. -/
def before : Xfer → ℕ × ℕ
  | ⟨false, true, s, _⟩ => (8, 7 + s.val)
  | ⟨false, false, s, _⟩ => (8 - s.val, 7)
  | ⟨true, true, s, _⟩ => (1 + s.val, 8)
  | ⟨true, false, s, _⟩ => (9, 15 - s.val)
/-- Which outdated copies are with the receiver after a transfer. -/
def after : Xfer → ℕ × ℕ
  | ⟨false, true, s, _⟩ => (8, 8 + s.val)
  | ⟨false, false, s, _⟩ => (7 - s.val, 7)
  | ⟨true, true, s, _⟩ => (2 + s.val, 8)
  | ⟨true, false, s, _⟩ => (9, 14 - s.val)

/-- The owner of a finished chunk sends it in both directions at once, half its share in each. -/
def shr (t : Xfer) : PosShare TreeShare := if t.s.val = 0 then cond t.rt fullShare.left fullShare.right else fullShare

/-- What lands. -/
def landed (d : Dev nD) (t : Xfer) : sProp 𝕄 :=
  cond t.ag (cellP d (d.val + landOff t) t.h fullShare (part (d.val + landOff t) t.h (total P)))
    (slotP d t.rt t.s t.h (part (d.val + landOff t) t.h (acc P t.rt (d.val + landOff t) t.s.val)))

/-- An arrival hands the receiver the rows that landed and the right to the chunk's outdated copies. -/
def payRecv (d : Dev nD) (t : Xfer) : sProp 𝕄 := iprop(landed P d t ∗ stale (d.val + landOff t) t.h (after t).1 (after t).2)

/-- A finished send hands back the rows it lent, if they were finished rows. -/
def paySend (d : Dev nD) (t : Xfer) : sProp 𝕄 :=
  cond t.ag (cellP d (d.val + srcOff t) t.h (shr t) (part (d.val + srcOff t) t.h (total P))) iprop(emp)

/-- What a transfer's sender needs of the receiver `e`. -/
def hand (e : Dev nD) (t : Xfer) : sProp 𝕄 :=
  iprop(reached ER (cellAt (e, .rcv t)) 0 ∗ cond t.ag iprop(emp) (slotAny e t.rt t.s t.h))

/-- A signal of the meeting hands over what the transfers in one direction need of the signalling device. -/
def payBar (d : Dev nD) (b : Bool) : sProp 𝕄 := bigSep (Finset.univ.filter fun t : Xfer => t.rt = b) (hand (tgt b d))

/-- Of two assertions that an invariant may hold, either may be chosen. -/
instance cond_storable (b : Bool) (A B : sProp 𝕄) [BI.Storable (upEmb : UEmb _ 𝕄) A] [BI.Storable (upEmb : UEmb _ 𝕄) B] :
    BI.Storable (upEmb : UEmb _ 𝕄) (cond b A B) := by cases b <;> assumption
instance (d : Dev nD) (t : Xfer) : BI.Storable (upEmb : UEmb _ 𝕄) (payRecv P d t) := by unfold payRecv landed; infer_instance
instance (d : Dev nD) (t : Xfer) : BI.Storable (upEmb : UEmb _ 𝕄) (paySend P d t) := by unfold paySend; infer_instance
instance (d : Dev nD) (b : Bool) : BI.Storable (upEmb : UEmb _ 𝕄) (payBar (F := F) d b) := by unfold payBar hand; infer_instance

/-- What a payment of kind `k` hands over. -/
def pay (d : Dev nD) : Kd → Bool → sProp 𝕄
  | .bar, b => payBar d b
  | .snd t, _ => paySend P d t
  | .rcv t, _ => payRecv P d t

instance (d : Dev nD) (k : Kd) (b : Bool) : BI.Storable (upEmb : UEmb _ 𝕄) (pay P d k b) := by cases k <;> (unfold pay; infer_instance)

/-- The size of a transfer, in the semaphores' units. -/
def N : ℕ := (rowM 0 0).view.dmaCredit
/-- A transfer counts for something. -/
theorem N_pos : 0 < N := View.dmaCredit_pos _ (by decide)

/-- The payments of a kind: two for the meeting, one for a copy. -/
def dutiesOf : Kd → Finset Bool
  | .bar => Finset.univ
  | _ => {false}
/-- How much a payment of a kind counts. -/
def amountOf : Kd → ℕ
  | .bar => 1
  | _ => N

/-- Every payment counts for something. -/
theorem amountOf_pos (k : Kd) : 0 < amountOf k := by
  cases k
  · exact Nat.one_pos
  · exact N_pos
  · exact N_pos

/-- The schedule of payments. -/
def Rd : Schedule (GSem nD τ sig) Bool 𝕄 where
  duties g r := if r = 0 then Function.extend cellAt (fun p => dutiesOf p.2) (fun _ => ∅) g else ∅
  unitless _ := False
  amount g _ _ := Function.extend cellAt (fun p => amountOf p.2) (fun _ => 1) g
  payload g _ b := Function.extend cellAt (fun p => pay P p.1 p.2 b) (fun _ => iprop(emp)) g
  amount_pos g _ _ _ := by
    unfold Function.extend
    split
    · exact amountOf_pos _
    · exact Nat.one_pos

/-- An invariant may hold what the schedule hands over. -/
instance Rd_storable (g : GSem nD τ sig) (r : ℕ) (b : Bool) : BI.Storable (upEmb : UEmb _ 𝕄) ((Rd P).payload g r b) := by
  show BI.Storable upEmb (Function.extend cellAt (fun p => pay P p.1 p.2 b) (fun _ => iprop(emp)) g)
  unfold Function.extend
  split <;> infer_instance

section Facts

variable (d : Dev nD) (t : Xfer) (b : Bool)

/-- The schedule's duties at a semaphore of the exchange. -/
theorem duties_at (k : Kd) : (Rd P).duties (cellAt (d, k)) 0 = dutiesOf k := by
  dsimp only [Rd]; rw [if_pos rfl, cellAt_inj.extend_apply]
theorem duties_later (g : GSem nD τ sig) (r : ℕ) (hr : 1 ≤ r) : (Rd P).duties g r = ∅ := if_neg (by omega)
/-- The schedule's amount at a semaphore of the exchange. -/
theorem amount_at (k : Kd) : (Rd P).amount (cellAt (d, k)) 0 b = amountOf k := by
  dsimp only [Rd]; rw [cellAt_inj.extend_apply]
theorem payload_at (k : Kd) : (Rd P).payload (cellAt (d, k)) 0 b = pay P d k b := by
  dsimp only [Rd]; rw [cellAt_inj.extend_apply]

/-- The meeting's semaphore expects two units. -/
theorem expect_bar : (Rd P).expect (cellAt (d, .bar)) 0 = 2 := by
  unfold Schedule.expect Schedule.amountOf
  rw [duties_at]; exact (Finset.sum_congr rfl fun b _ => amount_at P d b .bar).trans (by decide)
/-- A send semaphore expects one transfer. -/
theorem expect_snd : (Rd P).expect (cellAt (d, .snd t)) 0 = N := by
  unfold Schedule.expect Schedule.amountOf
  rw [duties_at]; exact (Finset.sum_singleton _ _).trans (amount_at P d false (.snd t))
/-- A receive semaphore expects one transfer. -/
theorem expect_rcv : (Rd P).expect (cellAt (d, .rcv t)) 0 = N := by
  unfold Schedule.expect Schedule.amountOf
  rw [duties_at]; exact (Finset.sum_singleton _ _).trans (amount_at P d false (.rcv t))

/-- What a wait at the meeting collects. -/
theorem rest_bar : bigSep ((Rd P).duties (cellAt (d, .bar)) 0 \ ∅) (fun b => (Rd P).payload (cellAt (d, .bar)) 0 b) = (iprop(payBar d false ∗ payBar d true) : sProp 𝕄) := by
  rw [Finset.sdiff_empty, duties_at]
  rw [bigSep_congr fun b _ => payload_at P d b .bar]
  exact bigSep_univ_eq_bigSepL [false, true] (by decide) (by decide) _
/-- What a wait for a send collects. -/
theorem rest_snd : bigSep ((Rd P).duties (cellAt (d, .snd t)) 0 \ ∅) (fun b => (Rd P).payload (cellAt (d, .snd t)) 0 b) = (paySend P d t : sProp 𝕄) := by
  rw [Finset.sdiff_empty, duties_at]
  exact (bigSep_singleton (i := false)).trans (payload_at P d false (.snd t))
/-- What a wait for an arrival collects. -/
theorem rest_rcv : bigSep ((Rd P).duties (cellAt (d, .rcv t)) 0 \ ∅) (fun b => (Rd P).payload (cellAt (d, .rcv t)) 0 b) = (payRecv P d t : sProp 𝕄) := by
  rw [Finset.sdiff_empty, duties_at]
  exact (bigSep_singleton (i := false)).trans (payload_at P d false (.rcv t))

end Facts

end Cert.KernelIdeal.Ring

end
-- ==== Proof.KernelIdeal.Tokens.lean ====
/-
  What a device holds along the line, as a list of tokens, and the check that the line can be walked.

  A token names a resource of the device; every step of the line consumes some tokens and makes others. The list before the
  first step is `start0`, and walking the line from it is possible and leaves `goal`: that is one decision.
-/
module

public import proofs.«01_k».proof.Proof.KernelIdeal.Cells
public import Idealize.ShloMosaic.Lib.Pipeline.BigSepL

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

variable {F : FTy → Type} [FloatOps F]

local notation "𝕄" => MT nD τ sig ℕ (Elt F) ℕ UU ℕ

/-- Of three assertions the first two may change places; -/
theorem swap3' (A B C : sProp 𝕄) : iprop(A ∗ B ∗ C) ⊢ iprop(B ∗ A ∗ C) := by
  iintro ⟨H1, H2, H3⟩
  isplitl [H2]; · iexact H2
  isplitl [H1] <;> iassumption
/-- both ways round they say the same. -/
theorem swap3 (A B C : sProp 𝕄) : iprop(A ∗ B ∗ C) = iprop(B ∗ A ∗ C) := BI.Entails.antisymm (swap3' A B C) (swap3' B A C)

/-! ## Tokens -/

/-- What a half chunk holds: the own partial sum, a sum grown in one direction, the finished rows, the finished rows at the
    half share sent in one direction. -/
inductive Has where
  | own
  | sum (rt : Bool)
  | all
  | half (rt : Bool)
  deriving DecidableEq

/-- A resource of a device, chunks counted from the device. -/
inductive Res where
  /-- what starting a transfer needs; the credit and position for waiting for one; a received one; a sent one; a sent one waited for -/
  | go (t : Xfer)
  | due (t : Xfer)
  | got (t : Xfer)
  | out (t : Xfer)
  | over (t : Xfer)
  /-- a half chunk of the result buffer -/
  | cell (k : ℕ) (h : Fin 2) (v : Has)
  /-- the slot of a transfer, filled or not -/
  | slot (t : Xfer) (full : Bool)
  /-- outdated copies elsewhere -/
  | stale (k : ℕ) (h : Fin 2) (lo hi : ℕ)
  deriving DecidableEq

/-- The index a transfer's arrival is waited for at: later in the line is higher. -/
def lev (t : Xfer) : ℕ := cond t.ag 20 2 + t.s.val

section Props

variable (P : Dev nD → Vec F S1024x1024 .f32) (d : Dev nD)

/-- The array whose rows a chunk holds, by what it is at. -/
def Has.arr (k : ℕ) : Has → Vec F S1024x1024 .f32
  | .own => P d
  | .sum true => acc P true (d.val + k) (8 - k)
  | .sum false => acc P false (d.val + k) ((k + 7) % 16)
  | .all => total P
  | .half _ => total P
/-- How much of the chunk's rows is held. -/
def Has.share : Has → PosShare TreeShare
  | .half true => fullShare.left
  | .half false => fullShare.right
  | _ => fullShare

/-- What a token stands for. -/
def Res.prop : Res → sProp 𝕄
  | .go t => iprop(dutyTok ER (cellAt (tgt t.rt d, .rcv t)) 0 false ∗ dutyTok ER (cellAt (d, .snd t)) 0 false ∗ reached ER (cellAt (d, .snd t)) 0
      ∗ atPos ER (cellAt (d, .snd t)) 0 ∅ 0 ∗ hand (tgt t.rt d) t)
  | .due t => iprop(cred (tallyAt (cellAt (d, .rcv t)) (lev t) N) ∗ atPos ER (cellAt (d, .rcv t)) 0 ∅ 0)
  | .got t => atPos ER (cellAt (d, .rcv t)) (0 + 1) ∅ 0
  | .out t => iprop(cred (tallyAt (cellAt (d, .snd t)) 0 N) ∗ atPos ER (cellAt (d, .snd t)) 0 ∅ 0)
  | .over t => atPos ER (cellAt (d, .snd t)) (0 + 1) ∅ 0
  | .cell k h v => cellP d (d.val + k) h v.share (part (d.val + k) h (v.arr P d k))
  | .slot t true => slotP d t.rt t.s t.h (part (d.val + addOff t) t.h (acc P t.rt (d.val + addOff t) t.s.val))
  | .slot t false => slotAny d t.rt t.s t.h
  | .stale k h lo hi => Ring.stale (d.val + k) h lo hi

/-- A list of tokens. -/
def held (Γ : List Res) : sProp 𝕄 := bigSepL Γ (Res.prop P d)

/-- An empty list of tokens stands for nothing. -/
theorem held_nil : (held P d [] : sProp 𝕄) = iprop(emp) := rfl
/-- One more token stands beside the rest. -/
theorem held_cons (r : Res) (Γ : List Res) : (held P d (r :: Γ) : sProp 𝕄) = iprop(r.prop P d ∗ held P d Γ) := bigSepL_cons _ _ _
/-- Two lists of tokens stand side by side. -/
theorem held_append (Γ Δ : List Res) : (held P d (Γ ++ Δ) : sProp 𝕄) = iprop(held P d Γ ∗ held P d Δ) := bigSepL_append _ _ _
/-- The order of tokens does not matter. -/
theorem held_perm {Γ Δ : List Res} (h : Γ.Perm Δ) : (held P d Γ : sProp 𝕄) = held P d Δ := by
  induction h with
  | nil => rfl
  | cons r _ ih => rw [held_cons, held_cons, ih]
  | swap r r' Γ => rw [held_cons, held_cons, held_cons, held_cons, swap3]
  | trans _ _ ih ih' => rw [ih, ih']

end Props

/-! ## Walking the line -/

/-- What a transfer's rows hold when it starts. -/
def srcHas (t : Xfer) : Has := cond t.ag (if t.s.val = 0 then .half t.rt else .all) (.sum t.rt)
/-- The last addition finishes the own chunk: it finds the other direction's sum there. -/
def lastFold (t : Xfer) : Bool := t.rt && t.s.val == 7

/-- The tokens that a step takes. -/
def Op.pre : Op → List Res
  | .start t => [.go t, .cell (srcOff t) t.h (srcHas t), .stale (srcOff t) t.h (before t).1 (before t).2]
  | .wait t => [.due t]
  | .fold t => [.cell (addOff t) t.h (cond (lastFold t) (.sum false) .own), .slot t true]
  | .done t => [.out t]
  | .turn h => [.cell 0 h .all, .stale 0 h 8 15, .stale 0 h 1 7]
/-- The tokens that a step gives. -/
def Op.post : Op → List Res
  | .start t => [.out t]
  | .wait t => [.got t, cond t.ag (.cell (landOff t) t.h .all) (.slot t true), .stale (landOff t) t.h (after t).1 (after t).2]
  | .fold t => [.cell (addOff t) t.h (cond (lastFold t) .all (.sum t.rt)), .slot t false]
  | .done t => .over t :: cond t.ag [.cell (srcOff t) t.h (srcHas t)] []
  | .turn h => [.cell 0 h (.half true), .cell 0 h (.half false), .stale 0 h 1 8, .stale 0 h 9 15]

/-- The transfers that a step starts. -/
def Op.starts : Op → List Xfer
  | .start t => [t]
  | _ => []
/-- The transfers a list of steps starts, in order: what is owed before it. -/
def owed (os : List Op) : List Xfer := os.flatMap Op.starts

/-- A wait is for something earlier than all that is still owed; only partial sums are added up. -/
def Op.ok (os : List Op) : Op → Bool
  | .wait t => (owed os).all fun x => decide (lev t < lev x)
  | .fold t => !t.ag
  | _ => true

/-- Taking tokens out of a list. -/
def take : List Res → List Res → Option (List Res)
  | [], Γ => some Γ
  | r :: rs, Γ => if r ∈ Γ then take rs (Γ.erase r) else none

/-- Walking steps. -/
def walk : List Op → List Res → Option (List Res)
  | [], Γ => some Γ
  | o :: os, Γ => if o.ok os then (take o.pre Γ).bind fun Δ => walk os (o.post ++ Δ) else none

/-- What the result buffer holds in front of the line: the own partial sum, the first rows to go named as such. -/
def has0 (k : ℕ) : Has := if k = 8 then .sum true else if k = 9 then .sum false else .own
/-- What it holds at the end. -/
def hasEnd (k : ℕ) : List Has := if k = 0 then [.half true, .half false] else [.all]

/-- The half chunks, counted from the device. -/
def chunks : List (ℕ × Fin 2) := (List.range 16).flatMap fun k => [(k, 0), (k, 1)]
/-- The slots are those of the transfers of the first phase. -/
def slots : List Xfer := allX.filter fun t => !t.ag

/-- The tokens at the start of the line. -/
def start0 : List Res :=
  allX.map .go ++ (allX.map .due ++ (chunks.map (fun p => .cell p.1 p.2 (has0 p.1)) ++ [.stale 8 0 8 7, .stale 8 1 8 7, .stale 9 0 8 7, .stale 9 1 8 7]))
/-- The tokens at its end. -/
def goal : List Res :=
  allX.map .got ++ (allX.map .over ++ (chunks.flatMap (fun p => (hasEnd p.1).map (.cell p.1 p.2)) ++ slots.map (.slot · false)))

section Sound

variable (P : Dev nD → Vec F S1024x1024 .f32) (d : Dev nD)

/-- Tokens taken out of a list stand beside what is left of it. -/
theorem take_sound : ∀ (rs Γ Δ : List Res), take rs Γ = some Δ → (held P d Γ ⊢ (iprop(held P d rs ∗ held P d Δ) : sProp 𝕄))
  | [], Γ, Δ, h => by
      cases h
      rw [held_nil]
      iintro H
      isplitr; · iempintro
      iexact H
  | r :: rs, Γ, Δ, h => by
    unfold take at h
    split at h
    · next hr =>
      have hp : (held P d Γ : sProp 𝕄) = held P d (r :: Γ.erase r) := held_perm P d (List.perm_cons_erase hr)
      rw [hp, held_cons, held_cons]
      iintro ⟨Hr, H⟩
      ihave H' := (take_sound rs _ Δ h) $$ H
      icases H' with ⟨H1, H2⟩
      isplitr [H2]; · isplitl [Hr] <;> iassumption
      iexact H2
    · cases h

end Sound

end Cert.KernelIdeal.Ring

end
-- ==== Proof.KernelIdeal.Family.lean ====
/-
  The semaphores of the exchange as one family, and what every device owes when the program starts.
-/
module

public import proofs.«01_k».proof.Proof.KernelIdeal.Tokens

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Cert.KernelIdeal.Gen

variable {F : FTy → Type} [FloatOps F]

local notation "𝕄" => MT nD τ sig ℕ (Elt F) ℕ UU ℕ

/-- The copies' semaphores: a transfer's receive semaphore or its send semaphore. -/
def osem (p : Bool × Xfer) : SemLoc sig := semOf (cond p.1 (.rcv p.2) (.snd p.2))

/-- Different copies' semaphores differ. -/
theorem osem_inj : Function.Injective osem := fun p q h => by
  have h' := semOf_inj h
  obtain ⟨b, t⟩ := p; obtain ⟨c, u⟩ := q
  cases b <;> cases c <;> cases h' <;> rfl

/-- A device's payments: to the neighbour where a transfer lands, to the own send semaphore, to both neighbours' meeting semaphores. -/
abbrev PayIx : Type := Xfer ⊕ Xfer ⊕ Bool
/-- The semaphore and the duty of a payment. -/
def payee (d : Dev nD) : PayIx → (Dev nD × Kd) × Bool
  | .inl t => ((tgt t.rt d, .rcv t), false)
  | .inr (.inl t) => ((d, .snd t), false)
  | .inr (.inr b) => ((tgt (!b) d, .bar), b)

/-- Different devices have different neighbours on a side. -/
theorem tgt_inj (b : Bool) : Function.Injective (tgt b) := fun c d h => by rw [← tgt_tgt b c, h, tgt_tgt]

/-- Different payments go to different places. -/
theorem payee_inj : Function.Injective fun q : Dev nD × PayIx => payee q.1 q.2 := fun q r h => by
  obtain ⟨c, x⟩ := q; obtain ⟨d, y⟩ := r
  match x, y with
  | .inl t, .inl u =>
    obtain ⟨⟨h1, h2⟩, -⟩ : (tgt t.rt c = tgt u.rt d ∧ Kd.rcv t = Kd.rcv u) ∧ false = false := by
      have := Prod.mk.inj h; exact ⟨Prod.mk.inj this.1, rfl⟩
    cases h2; rw [tgt_inj _ h1]
  | .inr (.inl t), .inr (.inl u) =>
    obtain ⟨h1, h2⟩ := Prod.mk.inj (Prod.mk.inj h).1
    cases h1; cases h2; rfl
  | .inr (.inr b), .inr (.inr b') =>
    obtain ⟨h1, h2⟩ := Prod.mk.inj h
    cases h2
    have hcd : c = d := tgt_inj _ (Prod.mk.inj h1).1
    rw [hcd]
  | .inl _, .inr (.inl _) => cases (Prod.mk.inj (Prod.mk.inj h).1).2
  | .inl _, .inr (.inr _) => cases (Prod.mk.inj (Prod.mk.inj h).1).2
  | .inr (.inl _), .inl _ => cases (Prod.mk.inj (Prod.mk.inj h).1).2
  | .inr (.inl _), .inr (.inr _) => cases (Prod.mk.inj (Prod.mk.inj h).1).2
  | .inr (.inr _), .inl _ => cases (Prod.mk.inj (Prod.mk.inj h).1).2
  | .inr (.inr _), .inr (.inl _) => cases (Prod.mk.inj (Prod.mk.inj h).1).2

/-- A payment's token. -/
def tok (q : Dev nD × PayIx) : GSem nD τ sig × ℕ × Bool := (cellAt (payee q.1 q.2).1, 0, (payee q.1 q.2).2)

/-- Different payments have different tokens. -/
theorem tok_inj : Function.Injective tok := fun q r h => by
  have h1 := cellAt_inj (Prod.mk.inj h).1
  have h2 := (Prod.mk.inj (Prod.mk.inj h).2).2
  exact payee_inj (Prod.ext h1 h2)

instance : Nonempty (Dev nD × PayIx) := ⟨⟨⟨0, by decide⟩, .inr (.inr true)⟩⟩

/-- The family: one launch. -/
def fam : Fam nD τ sig Bool 1 where
  bar := semOf .bar
  dorm _ := Finset.univ.map ⟨osem, osem_inj⟩
  toks d _ := Finset.univ.map ⟨fun x => tok (d, x), fun x y h => congrArg Prod.snd (tok_inj h)⟩
  semKey _ := 0
  hsem _ _ _ := Subsingleton.elim _ _
  hbar _ h := by
    obtain ⟨⟨b, t⟩, -, h⟩ := Finset.mem_map.mp h
    cases b <;> cases h
  tokKey x := ((Function.invFun tok x).1, 0)
  htok c j x hx := by
    obtain ⟨y, -, rfl⟩ := Finset.mem_map.mp hx
    exact Prod.ext (congrArg Prod.fst (Function.leftInverse_invFun tok_inj (c, y)) :) (Subsingleton.elim _ _)

section

variable (P : Dev nD → Vec F S1024x1024 .f32) (κ : GSem nD τ sig → ℕ)

/-- The family's invariants. -/
def invs : sProp 𝕄 := fam.cellInvs ER (Rd P) κ

/-- The invariants may be used again and again. -/
instance invs_persistent : BI.Persistent (invs P κ) := by unfold invs; infer_instance

/-- Each semaphore's invariant is among them. -/
theorem inv_at (d : Dev nD) (k : Kd) : invs P κ ⊢ (cellInv ER (Rd P) (κ (cellAt (d, k))) (cellAt (d, k)) : sProp 𝕄) := by
  cases k with
  | bar => exact fam.cellInvs_bar ER (Rd P) κ d
  | snd t => exact fam.cellInvs_dorm ER (Rd P) κ d (j := 0) (Finset.mem_map.mpr ⟨(false, t), Finset.mem_univ _, rfl⟩)
  | rcv t => exact fam.cellInvs_dorm ER (Rd P) κ d (j := 0) (Finset.mem_map.mpr ⟨(true, t), Finset.mem_univ _, rfl⟩)

attribute [irreducible] invs

end

/-! ## What is owed -/

/-- Indices below this have a level. -/
abbrev NL : ℕ := 40

/-- The payment of a transfer, of a signal. -/
def dueX (d : Dev nD) (t : Xfer) : Pay nD τ sig := (cellAt (tgt t.rt d, .rcv t), lev t, N)
/-- The payment of a signal. -/
def dueB (d : Dev nD) (b : Bool) : Pay nD τ sig := (cellAt (tgt b d, .bar), 1, 1)

/-- What a device owes for a list of transfers. -/
def owe (d : Dev nD) (l : List Xfer) : CellTallies nD τ sig ℕ := tallyL (l.map (dueX d))

/-- An empty list of transfers owes nothing. -/
theorem owe_nil (d : Dev nD) : owe d [] = 0 := rfl
/-- One more transfer owes its arrival besides. -/
theorem owe_cons (d : Dev nD) (t : Xfer) (l : List Xfer) : owe d (t :: l) = owe d l + tallyAt (cellAt (tgt t.rt d, .rcv t)) (lev t) N :=
  add_comm _ _

/-- What a device owes when the program starts. -/
def owe0 (d : Dev nD) : CellTallies nD τ sig ℕ :=
  owe d (owed ops) + tallyAt (cellAt (tgt true d, .bar)) 1 1 + tallyAt (cellAt (tgt false d, .bar)) 1 1

/-- Every transfer's index has a level, above the meeting's. -/
theorem lev_lt (t : Xfer) : 2 ≤ lev t ∧ lev t < NL := by revert t; decide +kernel

/-- Whatever is owed for a list of transfers is the arrival of one of them. -/
theorem owe_pos {d : Dev nD} {l : List Xfer} {g : GSem nD τ sig} {i : ℕ} (h : 0 < owe d l g i) : g.1.2 = .tc ∧ ∃ t ∈ l, i = lev t := by
  obtain ⟨x, hx, rfl, rfl⟩ := TalkSites.tallyL_pos h
  obtain ⟨t, ht, rfl⟩ := List.mem_map.mp hx
  exact ⟨rfl, t, ht, rfl⟩

/-- Everything owed lies above index 0. -/
theorem owe0_above : SiteBlocks.Above NL 1 (owe0 : Dev nD → CellTallies nD τ sig ℕ) := fun d g i h => by
  unfold owe0 at h
  rw [Pi.add_apply, Finsupp.add_apply, Pi.add_apply, Finsupp.add_apply] at h
  rcases Nat.add_pos_iff_pos_or_pos.mp h with h | h
  · rcases Nat.add_pos_iff_pos_or_pos.mp h with h | h
    · obtain ⟨hg, t, -, rfl⟩ := owe_pos h
      exact ⟨SiteBlocks.mem_L' hg (lev_lt t).2, by have := (lev_lt t).1; omega⟩
    · obtain ⟨rfl, rfl⟩ := Pipeline.tallyAt_pos h
      exact ⟨SiteBlocks.mem_L' rfl (by decide), le_refl _⟩
  · obtain ⟨rfl, rfl⟩ := Pipeline.tallyAt_pos h
    exact ⟨SiteBlocks.mem_L' rfl (by decide), le_refl _⟩

section

/-- A wait at an index below everything still owed may be made. -/
theorem mayWait (d : Dev nD) (s : SemLoc sig) (i : ℕ) (hi : i < NL) (l : List Xfer) (hl : ∀ t ∈ l, i < lev t) :
    (levAts (SiteBlocks.L NL) SiteBlocks.lv : sProp 𝕄) ⊢ MayWait (d : Thread nD τ) s i (owe d l) :=
  SiteBlocks.mayWait_of hi d s _ fun g k h => by
    obtain ⟨hg, t, ht, rfl⟩ := owe_pos h
    exact ⟨SiteBlocks.mem_L' hg (lev_lt t).2, hl t ht⟩

end

end Cert.KernelIdeal.Ring

end
-- ==== Proof.KernelIdeal.Lands.lean ====
/-
  What a transfer hands over when it lands, and where the outdated copies go.
-/
module

public import proofs.«01_k».proof.Proof.KernelIdeal.Family

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## Chunks modulo sixteen -/

/-- A chunk's rows depend on its number modulo sixteen. -/
theorem part_congr {c c' : ℕ} (hc : c % 16 = c' % 16) (h : Fin 2) (A : Vec F S1024x1024 .f32) : part c h A = part c' h A := by
  have key : ∀ (r r' : ℕ) (hr : r = r') (hb : ∀ a, (![r, 0] : Fin 2 → ℕ) a + S32x1024.size a ≤ S1024x1024.size a)
      (hb' : ∀ a, (![r', 0] : Fin 2 → ℕ) a + S32x1024.size a ≤ S1024x1024.size a),
      (oM.slice (Rect.unit (s := S1024x1024) ![r, 0] S32x1024.size hb) (fun _ => rfl)).view.read (Elt F) A
        = (oM.slice (Rect.unit (s := S1024x1024) ![r', 0] S32x1024.size hb') (fun _ => rfl)).view.read (Elt F) A := by
    rintro r _ rfl _ _; rfl
  exact key _ _ (row_congr hc h) _ _
/-- Holding a chunk's rows depends on its number modulo sixteen. -/
theorem cellP_congr {c c' : ℕ} (hc : c % 16 = c' % 16) (e : Dev nD) (h : Fin 2) (q : PosShare TreeShare) (X : Vec F S32x1024 .f32) :
    (cellP e c h q X : sProp 𝕄) = cellP e c' h q X := by unfold cellP; rw [rowM_congr hc]
/-- Holding them at some contents, likewise. -/
theorem cellAny_congr {c c' : ℕ} (hc : c % 16 = c' % 16) (e : Dev nD) (h : Fin 2) : (cellAny e c h : sProp 𝕄) = cellAny e c' h := by
  unfold cellAny; simp only [cellP_congr hc]
/-- Its outdated copies, likewise. -/
theorem stale_congr {c c' : ℕ} (hc : c % 16 = c' % 16) (h : Fin 2) (lo hi : ℕ) : (stale c h lo hi : sProp 𝕄) = stale c' h lo hi := by
  unfold stale
  refine congrArg _ (funext fun k => ?_)
  rw [cellAny_congr hc, dev_congr (show (c + k) % 16 = (c' + k) % 16 by omega)]

/-- One more outdated copy. -/
theorem stale_insert {c : ℕ} {h : Fin 2} {lo hi lo' hi' k : ℕ} (hk : k ∉ Finset.Icc lo hi) (he : Finset.Icc lo' hi' = insert k (Finset.Icc lo hi)) :
    (stale c h lo' hi' : sProp 𝕄) = iprop(cellAny (dev (c + k)) c h ∗ stale c h lo hi) := by
  unfold stale; rw [he, bigSep_insert hk]; rfl

/-- How far from its chunk's owner the device sits whose copy a transfer outdates or renews. -/
def spot : Xfer → ℕ
  | ⟨false, true, s, _⟩ => 8 + s.val
  | ⟨false, false, s, _⟩ => 7 - s.val
  | ⟨true, true, s, _⟩ => 1 + s.val
  | ⟨true, false, s, _⟩ => 15 - s.val

/-- A transfer of partial sums outdates one copy more. -/
theorem spot_rs (t : Xfer) (ha : t.ag = false) : spot t ∉ Finset.Icc (before t).1 (before t).2
    ∧ Finset.Icc (after t).1 (after t).2 = insert (spot t) (Finset.Icc (before t).1 (before t).2) := by
  obtain ⟨ag, rt, s, h⟩ := t; cases ha; revert h; revert s; revert rt; decide +kernel
/-- A transfer of finished rows renews one outdated copy. -/
theorem spot_ag (t : Xfer) (ha : t.ag = true) : spot t ∉ Finset.Icc (after t).1 (after t).2
    ∧ Finset.Icc (before t).1 (before t).2 = insert (spot t) (Finset.Icc (after t).1 (after t).2) := by
  obtain ⟨ag, rt, s, h⟩ := t; cases ha; revert h; revert s; revert rt; decide +kernel
/-- The copy outdated is the sender's; the copy renewed is the receiver's. -/
theorem spot_dev (d : Dev nD) (t : Xfer) : dev (d.val + srcOff t + spot t) = cond t.ag (tgt t.rt d) d := by
  obtain ⟨ag, rt, s, h⟩ := t; revert d h; revert s; revert ag rt; decide +kernel
/-- The chunk sent is the chunk that lands. -/
theorem land_chunk (d : Dev nD) (t : Xfer) : (d.val + srcOff t) % 16 = ((tgt t.rt d).val + landOff t) % 16 := by
  obtain ⟨ag, rt, s, h⟩ := t; revert d h; revert s; revert ag rt; decide +kernel

variable (P : Dev nD → Vec F S1024x1024 .f32) (d : Dev nD) (t : Xfer)

/-- A transfer of finished rows sends rows of the finished array. -/
theorem srcHas_ag (ha : t.ag = true) : (srcHas t).share = shr t ∧ ∀ k, (srcHas t).arr P d k = total P := by
  unfold srcHas shr
  rw [ha]
  by_cases hs : t.s.val = 0
  · simp only [cond_true, if_pos hs]
    refine ⟨?_, fun k => rfl⟩
    cases t.rt <;> rfl
  · simp only [cond_true, if_neg hs]
    exact ⟨rfl, fun k => rfl⟩
/-- A transfer of partial sums sends the chunk's sum so far. -/
theorem srcHas_rs (ha : t.ag = false) : (srcHas t).share = fullShare ∧ (srcHas t).arr P d (srcOff t) = acc P t.rt (d.val + srcOff t) t.s.val := by
  unfold srcHas
  rw [ha]
  obtain ⟨ag, rt, s, h⟩ := t
  cases ha
  cases rt
  · refine ⟨rfl, ?_⟩
    show acc P false _ ((9 + s.val + 7) % 16) = _
    have : (9 + s.val + 7) % 16 = s.val := by have := s.isLt; have := len_le false; omega
    rw [this]
  · refine ⟨rfl, ?_⟩
    show acc P true _ (8 - (8 - s.val)) = _
    have : 8 - (8 - s.val) = s.val := by have := s.isLt; have := len_le true; omega
    rw [this]

/-- The rows a transfer carries, named as the body names them. -/
theorem cellP_src (q : PosShare TreeShare) (X : Vec F S32x1024 .f32) : (cellP d (d.val + srcOff t) t.h q X : sProp 𝕄) = owns (d : Thread nD τ) (srcM d t) q X := by
  unfold cellP; rw [srcM_eq]
theorem cellP_dst (e : Dev nD) (q : PosShare TreeShare) (X : Vec F S32x1024 .f32) : (cellP e (d.val + srcOff t) t.h q X : sProp 𝕄) = owns (e : Thread nD τ) (srcM d t) q X := by
  unfold cellP; rw [srcM_eq]

/-- Partial sums landed: the receiver's slot is filled, and the sender's rows are one more outdated copy. -/
theorem land_rs (ha : t.ag = false) (fs : Buf (Elt F) ((srcM d t).view.loc (d : Thread nD τ))) (fd : Buf (Elt F) ((slotM t.rt t.s t.h).view.loc (tgt t.rt d : Thread nD τ)))
    (hs : (srcM d t).view.read (Elt F) fs = part (d.val + srcOff t) t.h (acc P t.rt (d.val + srcOff t) t.s.val)) :
    iprop((((slotM t.rt t.s t.h).view.loc (tgt t.rt d : Thread nD τ) ↦[(slotM t.rt t.s t.h).view.set]{fullShare}
            ((slotM t.rt t.s t.h).view.write (Elt F) fd ((srcM d t).view.read (Elt F) fs) Finset.univ))
          ∗ stale (d.val + srcOff t) t.h (before t).1 (before t).2)
        ∗ ((srcM d t).view.loc (d : Thread nD τ) ↦[(srcM d t).view.set]{fullShare} fs))
      ⊢ (payRecv P (tgt t.rt d) t : sProp 𝕄) := by
  have hc := land_chunk d t
  have hl : (landed P (tgt t.rt d) t : sProp 𝕄) = slotP (tgt t.rt d) t.rt t.s t.h (part (d.val + srcOff t) t.h (acc P t.rt (d.val + srcOff t) t.s.val)) := by
    unfold landed; rw [ha, cond_false, part_congr hc, acc_congr P t.rt hc _ (le_of_lt (lt_of_lt_of_le t.s.isLt (len_le _)))]
  unfold payRecv
  rw [hl, ← stale_congr hc, stale_insert (spot_rs t ha).1 (spot_rs t ha).2, spot_dev, ha, cond_false]
  unfold cellAny
  simp only [cellP_src]
  unfold slotP owns
  iintro ⟨⟨H1, H2⟩, H3⟩
  isplitl [H1]
  · iexists ((slotM t.rt t.s t.h).view.write (Elt F) fd ((srcM d t).view.read (Elt F) fs) Finset.univ)
    isplitr; · ipureintro; exact (View.read_write_univ (v := (slotM t.rt t.s t.h).view) fd _).trans hs
    iexact H1
  isplitl [H3]
  · iexists _; iexists fs
    isplitr; · ipureintro; rfl
    iexact H3
  iexact H2

/-- Finished rows landed: the receiver's copy is renewed. -/
theorem land_ag (ha : t.ag = true) (fs : Buf (Elt F) ((srcM d t).view.loc (d : Thread nD τ))) (fd : Buf (Elt F) ((srcM d t).view.loc (tgt t.rt d : Thread nD τ)))
    (hs : (srcM d t).view.read (Elt F) fs = part (d.val + srcOff t) t.h (total P)) :
    iprop(((srcM d t).view.loc (tgt t.rt d : Thread nD τ) ↦[(srcM d t).view.set]{fullShare}
            ((srcM d t).view.write (Elt F) fd ((srcM d t).view.read (Elt F) fs) Finset.univ))
          ∗ stale (d.val + srcOff t) t.h (after t).1 (after t).2)
      ⊢ (payRecv P (tgt t.rt d) t : sProp 𝕄) := by
  have hc := land_chunk d t
  have hl : (landed P (tgt t.rt d) t : sProp 𝕄) = owns (tgt t.rt d : Thread nD τ) (srcM d t) fullShare (part (d.val + srcOff t) t.h (total P)) := by
    unfold landed; rw [ha, cond_true, part_congr hc, ← cellP_congr hc, cellP_dst]
  unfold payRecv
  rw [hl, ← stale_congr hc]
  unfold owns
  iintro ⟨H1, H2⟩
  isplitl [H1]
  · iexists ((srcM d t).view.write (Elt F) fd ((srcM d t).view.read (Elt F) fs) Finset.univ)
    isplitr; · ipureintro; exact (View.read_write_univ (v := (srcM d t).view) fd _).trans hs
    iexact H1
  iexact H2

/-- The receiver's outdated copy, taken out of those the sender has. -/
theorem stale_take (ha : t.ag = true) : (stale (d.val + srcOff t) t.h (before t).1 (before t).2 : sProp 𝕄)
    = iprop((∃ X, owns (tgt t.rt d : Thread nD τ) (srcM d t) fullShare X) ∗ stale (d.val + srcOff t) t.h (after t).1 (after t).2) := by
  rw [stale_insert (spot_ag t ha).1 (spot_ag t ha).2, spot_dev, ha, cond_true]
  unfold cellAny
  simp only [cellP_dst]

/-- Sent rows may be read again once they have left: the payment to the own send semaphore. -/
theorem paid_ag (ha : t.ag = true) (fs : Buf (Elt F) ((srcM d t).view.loc (d : Thread nD τ)))
    (hs : (srcM d t).view.read (Elt F) fs = part (d.val + srcOff t) t.h (total P)) :
    ((srcM d t).view.loc (d : Thread nD τ) ↦[(srcM d t).view.set]{shr t} fs) ⊢ (paySend P d t : sProp 𝕄) := by
  unfold paySend
  rw [ha, cond_true, cellP_src]
  unfold owns
  iintro H
  iexists fs
  isplitr; · ipureintro; exact hs
  iexact H

end Cert.KernelIdeal.Ring

end
-- ==== Proof.KernelIdeal.Fold.lean ====
/-
  Adding what arrived: the rows after the addition are the next partial sum of the chunk.
-/
module

public import proofs.«01_k».proof.Proof.KernelIdeal.Lands

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- The rows added to, as the body names them. -/
abbrev addM (d : Dev nD) (t : Xfer) : Memref sig .tc .vmem S32x1024 .f32 :=
  oM.slice (Rect.unit (s := S1024x1024) (k1_off2 d (addWord t) (halfWord t.h)) S32x1024.size (inb_add d t)) (fun _ => rfl)

/-- They are the rows of the chunk that the transfer is added to. -/
theorem addM_eq (d : Dev nD) (t : Xfer) : addM d t = rowM (d.val + addOff t) t.h := slice_congr (off_add d t) _ _

/-- A slot as the vector a load of it yields: with a leading axis of size one. -/
def widen (X : Vec F S32x1024 .f32) : Vec F S1x32x1024 .f32 := shapeCast S1x32x1024 X (by decide)

/-- The body's addition. -/
theorem pay2_widen (u X : Vec F S32x1024 .f32) : k1_pay2 u (widen X) = addf u X := by
  unfold k1_pay2 widen
  funext i
  rw [shapeCast_shapeCast]
  simp only [shapeCast_self]

/-- Rows of a sum of arrays. -/
theorem part_add (c : ℕ) (h : Fin 2) (A B : Vec F S1024x1024 .f32) : part c h (addf A B) = addf (part c h A) (part c h B) := rfl

/-- Arrays equal on a chunk's rows have equal rows. -/
theorem part_ext {c : ℕ} {h : Fin 2} {A B : Vec F S1024x1024 .f32}
    (e : ∀ i ∈ rowSet c h, A i = B i) : part c h A = part c h B := by
  funext x
  exact e _ (View.emb_mem_set (rowM c h).view x)

variable (P : Dev nD → Vec F S1024x1024 .f32) (d : Dev nD) (t : Xfer)

/-- The addition's value, unless it is the last. -/
theorem fold_sum (ha : t.ag = false) (hl : lastFold t = false) :
    addf (part (d.val + addOff t) t.h (P d)) (part (d.val + addOff t) t.h (acc P t.rt (d.val + addOff t) t.s.val))
      = part (d.val + addOff t) t.h (Has.arr P d (addOff t) (.sum t.rt)) := by
  have hd : dev (who t.rt (d.val + addOff t) (t.s.val + 1)) = d := by
    clear hl; obtain ⟨ag, rt, s, h⟩ := t; revert d h; revert s; revert ag rt; decide +kernel
  have hn : Has.arr P d (addOff t) (.sum t.rt) = acc P t.rt (d.val + addOff t) (t.s.val + 1) := by
    obtain ⟨ag, rt, s, h⟩ := t
    cases ha
    cases rt
    · show acc P false _ (((10 + s.val) % 16 + 7) % 16) = _
      have : ((10 + s.val) % 16 + 7) % 16 = s.val + 1 := by have := s.isLt; have hs : s.val < 7 := s.isLt; omega
      rw [this]
    · show acc P true _ (8 - (7 - s.val)) = _
      have : 8 - (7 - s.val) = s.val + 1 := by have hs : s.val < 8 := s.isLt; omega
      rw [this]
  rw [hn, ← part_add]
  show _ = part _ _ (addf (P (dev (who t.rt (d.val + addOff t) (t.s.val + 1)))) (acc P t.rt (d.val + addOff t) t.s.val))
  rw [hd]

/-- The last addition's value: the finished rows. -/
theorem fold_last (hl : lastFold t = true) :
    addf (part (d.val + addOff t) t.h (Has.arr P d (addOff t) (.sum false))) (part (d.val + addOff t) t.h (acc P t.rt (d.val + addOff t) t.s.val))
      = part (d.val + addOff t) t.h (total P) := by
  obtain ⟨ag, rt, s, h⟩ := t
  unfold lastFold at hl
  simp only [Bool.and_eq_true, beq_iff_eq] at hl
  obtain ⟨hr, hs⟩ := hl
  cases hr
  have ho : addOff ⟨ag, true, s, h⟩ = 0 := by show 7 - s.val = 0; omega
  rw [ho, hs, ← part_add]
  exact part_ext fun i hi => (total_row P d h i hi).symm

end Cert.KernelIdeal.Ring

end
-- ==== Proof.KernelIdeal.Moves.lean ====
/-
  Every step of the line turns the tokens it needs into those it leaves.
-/
module

public import proofs.«01_k».proof.Proof.KernelIdeal.Fold

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- No loop needs a measure. -/
abbrev 𝒱₀ : Variants := Variants.none

/-- The rows sent count as one transfer. -/
theorem credit_src (d : Dev nD) (t : Xfer) : (srcM d t).view.dmaCredit = N := rfl
/-- So does a slot. -/
theorem credit_slot (rt : Bool) (s : Fin (len rt)) (h : Fin 2) : (slotM rt s h).view.dmaCredit = N := by cases rt <;> rfl
/-- So do the rows that a transfer lands in. -/
theorem credit_dst (d : Dev nD) (t : Xfer) : (dstM d t).view.dmaCredit = N := by
  obtain ⟨ag, rt, s, h⟩ := t
  cases ag
  · exact credit_slot rt s h
  · exact credit_src d _

variable (P : Dev nD → Vec F S1024x1024 .f32) (κ : GSem nD τ sig → ℕ) (d : Dev nD)

/-- What every step may use: the levels and the invariants. -/
abbrev ctx : sProp 𝕄 := iprop(levAts (SiteBlocks.L NL) SiteBlocks.lv ∗ invs P κ)

/-- A device's debts for the transfers still to start. -/
def owing (l : List Xfer) : sProp 𝕄 := iprop(∃ W, owes (d : Thread nD τ) (owe d l) W)

/-- A program run on device `d`. -/
abbrev run (k : Prog (TpuEff nD τ sig (Elt F) Λ₀ .tc) PUnit) (Q : PUnit → sProp 𝕄) : sProp 𝕄 :=
  wp frame (wpE (defs₀ (F := F)) 𝒱₀ (d : Thread nD τ) none) Set.univ k Q

variable (k : Prog (TpuEff nD τ sig (Elt F) Λ₀ .tc) PUnit) (Q : PUnit → sProp (MT nD τ sig ℕ (Elt F) ℕ UU ℕ))

/-- Starting a transfer of partial sums. -/
theorem start_rs (rt : Bool) (s : Fin (len rt)) (h : Fin 2) (l : List Xfer) :
    iprop(ctx P κ ∗ held P d (Op.pre (.start ⟨false, rt, s, h⟩)) ∗ owing d (⟨false, rt, s, h⟩ :: l))
      ⊢ iprop(((held P d (Op.post (.start ⟨false, rt, s, h⟩)) ∗ owing d l) -∗ run d k Q) -∗ run d (Op.prog d k (.start ⟨false, rt, s, h⟩)) Q) := by
  obtain ⟨t, rfl⟩ : ∃ t : Xfer, t = ⟨false, rt, s, h⟩ := ⟨_, rfl⟩
  have ha : (⟨false, rt, s, h⟩ : Xfer).ag = false := rfl
  have hh := srcHas_rs P d ⟨false, rt, s, h⟩ ha
  unfold Op.pre Op.post owing
  simp only [held_cons, held_nil, Res.prop]
  rw [hh.1, hh.2, cellP_src]
  unfold owns hand slotAny slotP owns
  simp only [cond_false]
  iintro ⟨⟨#Hlev, #HI⟩, ⟨⟨HtR, HtS, #HrS, HatS, #HrR, ⟨%X, ⟨%fd, -, Hd⟩⟩⟩, ⟨%fs, %hs, Hs⟩, Hst, -⟩, ⟨%W, HO⟩⟩ Hk
  iapply (Rounds.wp_send_landing_pointsTo_with 𝒱₀ ER (Rd P) (d : Thread nD τ) none (c' := (tgt rt d : Thread nD τ)) (src := srcM d ⟨false, rt, s, h⟩) (dst := slotM rt s h)
      (sS := .dma (sendSem ⟨false, rt, s, h⟩)) (sem := .dma (recvSem ⟨false, rt, s, h⟩)) (q := fullShare) (fs := fs) (fd := fd)
      (F := stale (d.val + srcOff ⟨false, rt, s, h⟩) h (before ⟨false, rt, s, h⟩).1 (before ⟨false, rt, s, h⟩).2)
      (κ₁ := κ (cellAt (d, .snd ⟨false, rt, s, h⟩))) (κ₂ := κ (cellAt (tgt rt d, .rcv ⟨false, rt, s, h⟩))) (r₁ := 0) (r₂ := 0) (d₁ := false) (d₂ := false)
      (by rw [duties_at P d (.snd _)]; exact Finset.mem_singleton_self _) (by rw [duties_at P (tgt rt d) (.rcv _)]; exact Finset.mem_singleton_self _)
      (lev ⟨false, rt, s, h⟩) 0 N (credit_slot rt s h) (amount_at P d false (.snd _)) (amount_at P (tgt rt d) false (.rcv _))
      (owe d l) (owe_cons d ⟨false, rt, s, h⟩ l) (W := W)
      (by rw [payload_at P d false (.snd _)]; exact BI.Entails.refl _)
      (by rw [payload_at P (tgt rt d) false (.rcv _)]; exact land_rs P d ⟨false, rt, s, h⟩ ha fs fd hs)) $$ [Hs Hd Hst HO HtS HtR]
  · isplitr; · iapply (inv_at P κ d (.snd ⟨false, rt, s, h⟩)); iexact HI
    isplitr; · iapply (inv_at P κ (tgt rt d) (.rcv ⟨false, rt, s, h⟩)); iexact HI
    isplitl [Hs]; · iexact Hs
    isplitl [Hd Hst]; · isplitl [Hd] <;> iassumption
    isplitl [HO]; · iexact HO
    isplitl [HtS]; · iexact HtS
    isplitr; · iexact HrS
    isplitl [HtR]; · iexact HtR
    iexact HrR
  iintro ⟨HcS, HO⟩
  iapply Hk
  isplitr [HO]
  · isplitl
    · isplitl [HcS] <;> iassumption
    iempintro
  iexists W; iexact HO

/-- Starting a transfer of finished rows. -/
theorem start_ag (rt : Bool) (s : Fin (len rt)) (h : Fin 2) (l : List Xfer) :
    iprop(ctx P κ ∗ held P d (Op.pre (.start ⟨true, rt, s, h⟩)) ∗ owing d (⟨true, rt, s, h⟩ :: l))
      ⊢ iprop(((held P d (Op.post (.start ⟨true, rt, s, h⟩)) ∗ owing d l) -∗ run d k Q) -∗ run d (Op.prog d k (.start ⟨true, rt, s, h⟩)) Q) := by
  have ha : (⟨true, rt, s, h⟩ : Xfer).ag = true := rfl
  have hh := srcHas_ag P d ⟨true, rt, s, h⟩ ha
  unfold Op.pre Op.post owing
  simp only [held_cons, held_nil, Res.prop]
  rw [hh.1, hh.2, cellP_src, stale_take d ⟨true, rt, s, h⟩ ha]
  unfold owns hand
  simp only [cond_true]
  iintro ⟨⟨#Hlev, #HI⟩, ⟨⟨HtR, HtS, #HrS, HatS, #HrR, -⟩, ⟨%fs, %hs, Hs⟩, ⟨⟨%X, ⟨%fd, -, Hd⟩⟩, Hst⟩, -⟩, ⟨%W, HO⟩⟩ Hk
  iapply (Rounds.wp_send_pointsTo_with 𝒱₀ ER (Rd P) (d : Thread nD τ) none (c' := (tgt rt d : Thread nD τ)) (src := srcM d ⟨true, rt, s, h⟩) (dst := srcM d ⟨true, rt, s, h⟩)
      (sS := .dma (sendSem ⟨true, rt, s, h⟩)) (sem := .dma (recvSem ⟨true, rt, s, h⟩)) (q := shr ⟨true, rt, s, h⟩) (fs := fs) (fd := fd)
      (F := stale (d.val + srcOff ⟨true, rt, s, h⟩) h (after ⟨true, rt, s, h⟩).1 (after ⟨true, rt, s, h⟩).2)
      (κ₁ := κ (cellAt (d, .snd ⟨true, rt, s, h⟩))) (κ₂ := κ (cellAt (tgt rt d, .rcv ⟨true, rt, s, h⟩))) (r₁ := 0) (r₂ := 0) (d₁ := false) (d₂ := false)
      (by rw [duties_at P d (.snd _)]; exact Finset.mem_singleton_self _) (by rw [duties_at P (tgt rt d) (.rcv _)]; exact Finset.mem_singleton_self _)
      (lev ⟨true, rt, s, h⟩) 0 N (credit_src d _) (amount_at P d false (.snd _)) (amount_at P (tgt rt d) false (.rcv _))
      (owe d l) (owe_cons d ⟨true, rt, s, h⟩ l) (W := W)
      (by rw [payload_at P d false (.snd _)]; exact paid_ag P d ⟨true, rt, s, h⟩ ha fs hs)
      (by rw [payload_at P (tgt rt d) false (.rcv _)]; exact land_ag P d ⟨true, rt, s, h⟩ ha fs fd hs)) $$ [Hs Hd Hst HO HtS HtR]
  · isplitr; · iapply (inv_at P κ d (.snd ⟨true, rt, s, h⟩)); iexact HI
    isplitr; · iapply (inv_at P κ (tgt rt d) (.rcv ⟨true, rt, s, h⟩)); iexact HI
    isplitl [Hs]; · iexact Hs
    isplitl [Hd Hst]; · isplitl [Hd] <;> iassumption
    isplitl [HO]; · iexact HO
    isplitl [HtS]; · iexact HtS
    isplitr; · iexact HrS
    isplitl [HtR]; · iexact HtR
    iexact HrR
  iintro ⟨HcS, HO⟩
  iapply Hk
  isplitr [HO]
  · isplitl
    · isplitl [HcS] <;> iassumption
    iempintro
  iexists W; iexact HO

/-- Waiting for an arrival. -/
theorem wait_step (t : Xfer) (l : List Xfer) (hl : ∀ x ∈ l, lev t < lev x) :
    iprop(ctx P κ ∗ held P d (Op.pre (.wait t)) ∗ owing d l)
      ⊢ iprop(((held P d (Op.post (.wait t)) ∗ owing d l) -∗ run d k Q) -∗ run d (Op.prog d k (.wait t)) Q) := by
  have hp : (payRecv P d t : sProp 𝕄) ⊢ held P d [cond t.ag (.cell (landOff t) t.h .all) (.slot t true), .stale (landOff t) t.h (after t).1 (after t).2] := by
    rw [held_cons, held_cons, held_nil]
    unfold payRecv landed landOff
    cases t.ag
    all_goals
      dsimp only [cond_true, cond_false, Res.prop, Has.share, Has.arr]
      iintro ⟨H1, H2⟩
      isplitl [H1]; · iexact H1
      isplitl [H2]; · iexact H2
      iempintro
  unfold Op.pre Op.post owing
  rw [held_cons, held_nil, held_cons]
  simp only [Res.prop]
  iintro ⟨⟨#Hlev, #HI⟩, ⟨⟨Hc, Hat⟩, -⟩, ⟨%W, HO⟩⟩ Hk
  iapply (Rounds.wp_wait_rest_token 𝒱₀ ER (Rd P) (d : Thread nD τ) none (κ := κ (cellAt (d, .rcv t))) (k' := N)
      (fun K => (wpE_waitDma2_eq 𝒱₀ (d : Thread nD τ) none Set.univ K).trans (by rw [credit_dst])) (Set.mem_univ _) (lev t) (O := owe d l) (W := W) (R := 0) (m := 0) (T := ∅)
      ((Nat.zero_add _).trans (expect_rcv P d t).symm)) $$ [Hc HO Hat]
  · isplitr; · iapply (inv_at P κ d (.rcv t)); iexact HI
    isplitl [Hc]; · iexact Hc
    isplitl [HO]; · iexact HO
    isplitr; · iapply (mayWait d _ _ (lev_lt t).2 l hl); iexact Hlev
    iexact Hat
  iintro ⟨HO, Hat, -, Hpay⟩
  ihave Hp := (Entails.of_eq (rest_rcv P d t)) $$ Hpay
  iapply Hk
  isplitr [HO]
  · isplitl [Hat]; · iexact Hat
    iapply hp; iexact Hp
  iexists _; iexact HO

/-- Waiting until a transfer has left. -/
theorem done_step (t : Xfer) (l : List Xfer) :
    iprop(ctx P κ ∗ held P d (Op.pre (.done t)) ∗ owing d l)
      ⊢ iprop(((held P d (Op.post (.done t)) ∗ owing d l) -∗ run d k Q) -∗ run d (Op.prog d k (.done t)) Q) := by
  have hp : (paySend P d t : sProp 𝕄) ⊢ held P d (cond t.ag [.cell (srcOff t) t.h (srcHas t)] []) := by
    unfold paySend
    cases ha : t.ag
    · exact BI.Entails.refl _
    · have hh := srcHas_ag P d t ha
      rw [cond_true, cond_true, held_cons, held_nil]
      simp only [Res.prop]
      rw [hh.1, hh.2]
      iintro H
      isplitl; · iexact H
      iempintro
  unfold Op.pre Op.post owing
  rw [held_cons, held_nil, held_cons]
  simp only [Res.prop]
  iintro ⟨⟨#Hlev, #HI⟩, ⟨⟨Hc, Hat⟩, -⟩, ⟨%W, HO⟩⟩ Hk
  iapply (Rounds.wp_wait_rest_token 𝒱₀ ER (Rd P) (d : Thread nD τ) none (κ := κ (cellAt (d, .snd t))) (k' := N)
      (fun K => (wpE_waitDma2_eq 𝒱₀ (d : Thread nD τ) none Set.univ K).trans (by rw [credit_src])) (Set.mem_univ _) 0 (O := owe d l) (W := W) (R := 0) (m := 0) (T := ∅)
      ((Nat.zero_add _).trans (expect_snd P d t).symm)) $$ [Hc HO Hat]
  · isplitr; · iapply (inv_at P κ d (.snd t)); iexact HI
    isplitl [Hc]; · iexact Hc
    isplitl [HO]; · iexact HO
    isplitr; · iapply (mayWait d _ 0 (by decide) l (fun x _ => by have := (lev_lt x).1; omega)); iexact Hlev
    iexact Hat
  iintro ⟨HO, Hat, -, Hpay⟩
  ihave Hp := (Entails.of_eq (rest_snd P d t)) $$ Hpay
  iapply Hk
  isplitr [HO]
  · isplitl [Hat]; · iexact Hat
    iapply hp; iexact Hp
  iexists _; iexact HO

/-- Loading a slot. -/
theorem load_slot (rt : Bool) (s : Fin (len rt)) (h : Fin 2) (X : Vec F S32x1024 .f32) (K : Vec F S1x32x1024 .f32 → Prog (TpuEff nD τ sig (Elt F) Λ₀ .tc) PUnit) :
    slotP d rt s h X ⊢ iprop((slotP d rt s h X -∗ run d (K (widen X)) Q) -∗ run d (loadSlot rt s h K) Q) := by
  have key : ∀ v : Vec F S1x32x1024 .f32, shapeCast S32x1024 v shapeCasts_S1x32x1024_S32x1024 = X → v = widen X := fun v hv => by
    rw [← hv]; exact (shapeCast_shapeCast v _ _).symm
  unfold slotP owns
  cases rt
  · iintro ⟨%f, %hf, H⟩ Hk
    iapply (wp_load_rect 𝒱₀ (d : Thread nD τ) none Set.univ (m := lM) (r := Rect.unit (s := S14x32x1024) ![2 * s.val + h.val, 0, 0] S1x32x1024.size (inbL s h))
      (S := (slotM false s h).view.set) (q := fullShare) (f := f) (by rw [View.set_reshape])) $$ H
    iintro H
    rw [key ((lM.access (Rect.unit (s := S14x32x1024) ![2 * s.val + h.val, 0, 0] S1x32x1024.size (inbL s h))).read (Elt F) f) hf]
    iapply Hk
    iexists f
    isplitr; · ipureintro; exact hf
    iexact H
  · iintro ⟨%f, %hf, H⟩ Hk
    iapply (wp_load_rect 𝒱₀ (d : Thread nD τ) none Set.univ (m := rM) (r := Rect.unit (s := S16x32x1024) ![2 * s.val + h.val, 0, 0] S1x32x1024.size (inbR s h))
      (S := (slotM true s h).view.set) (q := fullShare) (f := f) (by rw [View.set_reshape])) $$ H
    iintro H
    rw [key ((rM.access (Rect.unit (s := S16x32x1024) ![2 * s.val + h.val, 0, 0] S1x32x1024.size (inbR s h))).read (Elt F) f) hf]
    iapply Hk
    iexists f
    isplitr; · ipureintro; exact hf
    iexact H

/-- Adding `Y`, found in a slot, to the rows at `X`. -/
theorem fold_raw (t : Xfer) (X Y : Vec F S32x1024 .f32) :
    iprop(cellP d (d.val + addOff t) t.h fullShare X ∗ slotP d t.rt t.s t.h Y)
      ⊢ iprop(((cellP d (d.val + addOff t) t.h fullShare (addf X Y) ∗ slotP d t.rt t.s t.h Y) -∗ run d k Q) -∗ run d (Op.prog d k (.fold t)) Q) := by
  unfold cellP
  rw [← addM_eq d t]
  unfold owns
  iintro ⟨⟨%f, %hf, H⟩, Hs⟩ Hk
  iapply (wp_load_rect 𝒱₀ (d : Thread nD τ) none Set.univ (m := oM)
    (r := Rect.unit (s := S1024x1024) (k1_off2 d (addWord t) (halfWord t.h)) S32x1024.size (inb_add d t)) (S := (addM d t).view.set) (q := fullShare) (f := f) subset_rfl) $$ H
  iintro H
  iapply (load_slot d Q t.rt t.s t.h Y) $$ Hs
  iintro Hs
  iapply (wp_load_rect 𝒱₀ (d : Thread nD τ) none Set.univ (m := oM)
    (r := Rect.unit (s := S1024x1024) (k1_off2 d (addWord t) (halfWord t.h)) S32x1024.size (inb_add d t)) (S := (addM d t).view.set) (q := fullShare) (f := f) subset_rfl) $$ H
  iintro H
  iapply (wp_store 𝒱₀ (d : Thread nD τ) none Set.univ (m := oM)
    (r := Rect.unit (s := S1024x1024) (k1_off2 d (addWord t) (halfWord t.h)) S32x1024.size (inb_add d t)) (S := (addM d t).view.set) (f := f) (View.setOn_subset_set _ _)) $$ H
  iintro H
  iapply Hk
  isplitr [Hs]
  · iexists _
    isplitr
    rotate_left
    · iexact H
    · ipureintro
      refine (View.read_write_univ (v := (addM d t).view) f _).trans ?_
      rw [pay2_widen]
      exact congrArg (fun z => addf z Y) hf
  iexact Hs

/-- Adding what arrived. -/
theorem fold_step (t : Xfer) (ha : t.ag = false) (l : List Xfer) :
    iprop(ctx P κ ∗ held P d (Op.pre (.fold t)) ∗ owing d l)
      ⊢ iprop(((held P d (Op.post (.fold t)) ∗ owing d l) -∗ run d k Q) -∗ run d (Op.prog d k (.fold t)) Q) := by
  unfold Op.pre Op.post
  simp only [held_cons, held_nil]
  cases hl : lastFold t
  · have hv := fold_sum P d t ha hl
    simp only [cond_false, Res.prop]
    iintro ⟨-, ⟨H1, H2, -⟩, HO⟩ Hk
    iapply (fold_raw d k Q t (part (d.val + addOff t) t.h (P d)) _) $$ [H1 H2]
    · isplitl [H1]; · iexact H1
      iexact H2
    rw [hv]
    iintro ⟨H1, H2⟩
    iapply Hk
    isplitr [HO]
    · isplitl [H1]; · cases t.rt <;> iexact H1
      isplitl
      · unfold slotAny; iexists _; iexact H2
      iempintro
    iexact HO
  · have hv := fold_last P d t hl
    simp only [cond_true, Res.prop]
    iintro ⟨-, ⟨H1, H2, -⟩, HO⟩ Hk
    iapply (fold_raw d k Q t (part (d.val + addOff t) t.h (Has.arr P d (addOff t) (.sum false))) _) $$ [H1 H2]
    · isplitl [H1]; · iexact H1
      iexact H2
    rw [hv]
    iintro ⟨H1, H2⟩
    iapply Hk
    isplitr [HO]
    · isplitl [H1]; · iexact H1
      isplitl
      · unfold slotAny; iexists _; iexact H2
      iempintro
    iexact HO

end Cert.KernelIdeal.Ring

end
-- ==== Proof.KernelIdeal.Line.lean ====
/-
  The whole line of steps, from the tokens at its start to those at its end.
-/
module

public import proofs.«01_k».proof.Proof.KernelIdeal.Moves

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- A held half chunk, in two half shares. -/
theorem cell_halves (e : Dev nD) (c : ℕ) (h : Fin 2) (X : Vec F S32x1024 .f32) :
    (cellP e c h fullShare X : sProp 𝕄) ⊢ iprop(cellP e c h fullShare.left X ∗ cellP e c h fullShare.right X) := by
  unfold cellP owns
  iintro ⟨%f, %hf, H⟩
  ihave H' := ((pointsTo_share (PosShare.mem_left_op_right fullShare)).1) $$ H
  icases H' with ⟨H1, H2⟩
  isplitl [H1]
  · iexists f
    isplitr; · ipureintro; exact hf
    iexact H1
  · iexists f
    isplitr; · ipureintro; exact hf
    iexact H2
/-- Two half shares of a half chunk together. -/
theorem cell_whole (e : Dev nD) (c : ℕ) (h : Fin 2) (X : Vec F S32x1024 .f32) :
    (iprop(cellP e c h fullShare.left X ∗ cellP e c h fullShare.right X) : sProp 𝕄) ⊢ cellP e c h fullShare X := by
  unfold cellP owns
  iintro ⟨⟨%f, %hf, H1⟩, ⟨%g, %hg, H2⟩⟩
  have hfg : ∀ i ∈ (rowM c h).view.set, g i = f i := fun i hi => by
    obtain ⟨x, -, rfl⟩ := Finset.mem_map.mp hi
    exact congrFun (hg.trans hf.symm) x
  ihave H2' := (Entails.of_eq (pointsTo_congr (ℓ := (rowM c h).view.loc (e : Thread nD τ)) (q := fullShare.right) (f := g) (g := f) hfg)) $$ H2
  iexists f
  isplitr; · ipureintro; exact hf
  iapply (pointsTo_share (PosShare.mem_left_op_right fullShare)).2
  isplitl [H1] <;> iassumption

/-- The outdated copies gathered in the two directions, dealt again for the two directions. -/
theorem stale_deal (c : ℕ) (h : Fin 2) : (iprop(stale c h 8 15 ∗ stale c h 1 7) : sProp 𝕄) ⊢ iprop(stale c h 1 8 ∗ stale c h 9 15) := by
  rw [stale_insert (c := c) (h := h) (lo := 9) (hi := 15) (lo' := 8) (hi' := 15) (k := 8) (by decide) (by decide),
    stale_insert (c := c) (h := h) (lo := 1) (hi := 7) (lo' := 1) (hi' := 8) (k := 8) (by decide) (by decide)]
  iintro ⟨⟨H1, H2⟩, H3⟩
  isplitr [H2]
  · isplitl [H1] <;> iassumption
  iexact H2

variable (P : Dev nD → Vec F S1024x1024 .f32) (κ : GSem nD τ sig → ℕ) (d : Dev nD)

/-- Between the phases: a finished half chunk is split for its two directions, and its outdated copies are shared out to them. -/
theorem turn_held (h : Fin 2) : (held P d (Op.pre (.turn h)) : sProp 𝕄) ⊢ held P d (Op.post (.turn h)) := by
  unfold Op.pre Op.post
  simp only [held_cons, held_nil]
  dsimp only [Res.prop, Has.share, Has.arr]
  iintro ⟨H, H1, H2, -⟩
  ihave H' := (cell_halves d (d.val + 0) h (part (d.val + 0) h (total P))) $$ H
  icases H' with ⟨Ha, Hb⟩
  ihave Hst := (stale_deal (d.val + 0) h) $$ [H1 H2]
  · isplitl [H1] <;> iassumption
  icases Hst with ⟨Hc, Hd⟩
  isplitl [Ha]; · iexact Ha
  isplitl [Hb]; · iexact Hb
  isplitl [Hc]; · iexact Hc
  isplitl [Hd]; · iexact Hd
  iempintro

/-- Any step. -/
theorem step (Q : PUnit → sProp 𝕄) (k : Prog (TpuEff nD τ sig (Elt F) Λ₀ .tc) PUnit) (o : Op) (os : List Op) (hok : o.ok os = true) :
    iprop(ctx P κ ∗ held P d o.pre ∗ owing d (owed (o :: os)))
      ⊢ iprop(((held P d o.post ∗ owing d (owed os)) -∗ run d k Q) -∗ run d (o.prog d k) Q) := by
  match o with
  | .start ⟨true, rt, s, h⟩ => exact start_ag P κ d k Q rt s h (owed os)
  | .start ⟨false, rt, s, h⟩ => exact start_rs P κ d k Q rt s h (owed os)
  | .wait t =>
    refine wait_step P κ d k Q t (owed os) fun x hx => ?_
    exact of_decide_eq_true (List.all_eq_true.mp hok x hx)
  | .done t => exact done_step P κ d k Q t (owed os)
  | .fold t => exact fold_step P κ d k Q t (by simpa [Op.ok] using hok) (owed os)
  | .turn h =>
    iintro ⟨-, H, HO⟩ Hk
    iapply Hk
    isplitl [H]
    · iapply (turn_held P d h); iexact H
    iexact HO

/-- Any line of steps. -/
theorem walk_run (Q : PUnit → sProp 𝕄) : ∀ (os : List Op) (Γ Γ' : List Res), walk os Γ = some Γ' →
    (iprop(ctx P κ ∗ held P d Γ ∗ owing d (owed os))
      ⊢ iprop(((held P d Γ' ∗ owing d []) -∗ run d (.ret ⟨⟩) Q) -∗ run d (line d os) Q))
  | [], Γ, Γ', h => by
    cases h
    iintro ⟨-, H, HO⟩ Hk
    iapply Hk
    isplitl [H]; · iexact H
    iexact HO
  | o :: os, Γ, Γ', h => by
    unfold walk at h
    split at h
    · next hok =>
      obtain ⟨Δ, hΔ, h'⟩ := Option.bind_eq_some_iff.mp h
      have hst := step P κ d Q (line d os) o os hok
      have hw := walk_run Q os _ _ h'
      iintro ⟨#Hc, H, HO⟩ Hk
      ihave H' := (take_sound P d _ _ _ hΔ) $$ H
      icases H' with ⟨H1, H2⟩
      iapply hst $$ [H1 HO]
      · isplitr; · iexact Hc
        isplitl [H1] <;> iassumption
      iintro ⟨H1, HO⟩
      iapply hw $$ [H1 H2 HO]
      · isplitr; · iexact Hc
        isplitr [HO]
        · rw [held_append]
          isplitl [H1] <;> iassumption
        iexact HO
      iexact Hk
    · cases h

/-- The line, from the tokens it starts with to those it ends with. -/
theorem ops_run (Q : PUnit → sProp 𝕄) (hw : ((walk ops start0).bind (take goal)).isSome = true) :
    iprop(ctx P κ ∗ held P d start0 ∗ owing d (owed ops))
      ⊢ iprop(((held P d goal ∗ owing d []) -∗ run d (.ret ⟨⟩) Q) -∗ run d (line d ops) Q) := by
  obtain ⟨Δ, hΔ⟩ := Option.isSome_iff_exists.mp hw
  obtain ⟨Γ, h1, h2⟩ := Option.bind_eq_some_iff.mp hΔ
  have hr := walk_run P κ d Q ops start0 Γ h1
  iintro H Hk
  iapply hr $$ H
  iintro ⟨H, HO⟩
  ihave H' := (take_sound P d _ _ _ h2) $$ H
  icases H' with ⟨H1, -⟩
  iapply Hk
  isplitl [H1] <;> iassumption

end Cert.KernelIdeal.Ring

end
-- ==== Proof.KernelIdeal.Buffers.lean ====
/-
  Whole buffers cut into the pieces that travel, and put together again.
-/
module

public import proofs.«01_k».proof.Proof.KernelIdeal.Line
public import Idealize.ShloMosaic.Lib.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-- Two assertions that give each other are one. -/
theorem both {A B : sProp 𝕄} (h1 : A ⊢ B) (h2 : B ⊢ A) : A = B := BI.Entails.antisymm h1 h2

/-- A family with one more index: that index's assertion beside the rest. -/
theorem family_insert {I : Type} [DecidableEq I] {s : Finset I} {i : I} (hi : i ∉ s) (Φ : I → sProp 𝕄) :
    bigSep (insert i s) Φ = iprop(Φ i ∗ bigSep s Φ) := bigSep_insert hi
/-- A family over two disjoint sets of indices: the two families side by side. -/
theorem family_union {I : Type} [DecidableEq I] {s t : Finset I} (h : Disjoint s t) (Φ : I → sProp 𝕄) :
    bigSep (s ∪ t) Φ = iprop(bigSep s Φ ∗ bigSep t Φ) := bigSep_union h

/-! ## Families of transfers -/

/-- The transfers of one phase and one direction. -/
def embX (ag rt : Bool) : Fin (len rt) × Fin 2 ↪ Xfer :=
  ⟨fun p => ⟨ag, rt, p.1, p.2⟩, fun p q h => by
    have h' := Xfer.mk.inj h
    exact Prod.ext (eq_of_heq h'.2.2.1) h'.2.2.2⟩

/-- The transfers of one direction are those of its two phases. -/
theorem filter_dir (b : Bool) : (Finset.univ.filter fun t : Xfer => t.rt = b) = Finset.univ.map (embX false b) ∪ Finset.univ.map (embX true b) := by
  ext ⟨ag, rt, s, h⟩
  rw [Finset.mem_union, Finset.mem_filter]
  constructor
  · rintro ⟨-, rfl⟩
    cases ag
    · exact .inl (Finset.mem_map.mpr ⟨(s, h), Finset.mem_univ _, rfl⟩)
    · exact .inr (Finset.mem_map.mpr ⟨(s, h), Finset.mem_univ _, rfl⟩)
  · rintro (h' | h')
    all_goals
      obtain ⟨p, -, e⟩ := Finset.mem_map.mp h'
      exact ⟨Finset.mem_univ _, (Xfer.mk.inj e).2.1.symm⟩

/-- Transfers of different phases differ. -/
theorem disj_phase (b b' : Bool) : Disjoint (Finset.univ.map (embX false b)) (Finset.univ.map (embX true b')) := by
  rw [Finset.disjoint_left]
  intro t h h'
  obtain ⟨p, -, rfl⟩ := Finset.mem_map.mp h
  obtain ⟨q, -, e⟩ := Finset.mem_map.mp h'
  exact Bool.noConfusion (Xfer.mk.inj e).1

/-- Transfers of different directions differ. -/
theorem disj_dir (a : Bool) : Disjoint (Finset.univ.map (embX a true)) (Finset.univ.map (embX a false)) := by
  rw [Finset.disjoint_left]
  intro t h h'
  obtain ⟨p, -, rfl⟩ := Finset.mem_map.mp h
  obtain ⟨q, -, e⟩ := Finset.mem_map.mp h'
  exact Bool.noConfusion (Xfer.mk.inj e).2.1

/-- A family over all transfers, by direction. -/
theorem bigSep_dirs (Φ : Xfer → sProp 𝕄) :
    bigSep Finset.univ Φ = iprop(bigSep (Finset.univ.filter fun t : Xfer => t.rt = false) Φ ∗ bigSep (Finset.univ.filter fun t : Xfer => t.rt = true) Φ) := by
  rw [bigSep_filter_split Finset.univ fun t : Xfer => t.rt = false]
  rw [show (Finset.univ.filter fun t : Xfer => ¬t.rt = false) = Finset.univ.filter fun t : Xfer => t.rt = true from
    Finset.filter_congr fun t _ => by cases t.rt <;> simp]
  rfl

/-- A family over one direction, by phase. -/
theorem bigSep_dir (b : Bool) (Φ : Xfer → sProp 𝕄) :
    bigSep (Finset.univ.filter fun t : Xfer => t.rt = b) Φ
      = iprop(bigSep Finset.univ (fun p => Φ (embX false b p)) ∗ bigSep Finset.univ (fun p => Φ (embX true b p))) := by
  rw [filter_dir, family_union (disj_phase b b), bigSep_map, bigSep_map]

/-- The slots are those of the two directions. -/
theorem slots_eq : (Finset.univ.map (embX false true) ∪ Finset.univ.map (embX false false) : Finset Xfer) = slots.toFinset := by decide +kernel
/-- Every slot is listed once. -/
theorem slots_nodup : slots.Nodup := by decide +kernel

/-- The list of slots, by direction. -/
theorem bigSepL_slots (Φ : Xfer → sProp 𝕄) :
    bigSepL slots Φ = iprop(bigSep Finset.univ (fun p => Φ (embX false true p)) ∗ bigSep Finset.univ (fun p => Φ (embX false false p))) := by
  rw [← bigSep_eq_bigSepL_of_eq slots slots_eq slots_nodup, family_union (disj_dir false), bigSep_map, bigSep_map]

/-- The list of all transfers is the family over them. -/
theorem bigSepL_allX (Φ : Xfer → sProp 𝕄) : bigSepL allX Φ = bigSep Finset.univ Φ :=
  (bigSep_univ_eq_bigSepL allX (Finset.ext fun t => ⟨fun _ => List.mem_toFinset.mpr (mem_allX t), fun _ => Finset.mem_univ _⟩) allX_nodup Φ).symm

/-- A list made of lists: each inner list's assertions, side by side. -/
theorem bigSepL_flatMap {I J : Type} (g : I → List J) (l : List I) (Φ : J → sProp 𝕄) :
    bigSepL (l.flatMap g) Φ = bigSepL l fun i => bigSepL (g i) Φ := by
  induction l with
  | nil => rfl
  | cons i l ih => rw [List.flatMap_cons, bigSepL_append, bigSepL_cons', ih]

/-- An update at every member of a family, a persistent fact beside it. -/
theorem fupd_family {I : Type} [DecidableEq I] (s : Finset I) (R : sProp 𝕄) [BI.Persistent R] (Φ Ψ : I → sProp 𝕄)
    (h : ∀ i, iprop(R ∗ Φ i) ⊢ (|={Set.univ}=> Ψ i : sProp 𝕄)) : iprop(R ∗ bigSep s Φ) ⊢ (|={Set.univ}=> bigSep s Ψ : sProp 𝕄) := by
  induction s using Finset.induction_on with
  | empty =>
    rw [bigSep_empty, bigSep_empty]
    iintro ⟨-, -⟩
    imodintro
    iempintro
  | insert i s hi ih =>
    rw [family_insert hi, family_insert hi]
    iintro ⟨#HR, H1, H2⟩
    imod (h i) $$ [H1] with H1
    · isplitr; · iexact HR
      iexact H1
    imod ih $$ [H2] with H2
    · isplitr; · iexact HR
      iexact H2
    imodintro
    isplitl [H1] <;> iassumption

/-! ## The result buffer -/

/-- A device's result buffer, its operand's copy, its two arrays of slots. -/
abbrev oLoc (d : Dev nD) : Loc nD τ sig := (d : Thread nD τ).loc cc1_stg1_0
/-- The exchange's input on a device. -/
abbrev pLoc (d : Dev nD) : Loc nD τ sig := (d : Thread nD τ).loc cc1_stg0_0
/-- The buffer that rows from the left neighbour land in. -/
abbrev rLoc (d : Dev nD) : Loc nD τ sig := (d : Thread nD τ).loc cc1_scratch0
/-- The buffer that rows from the right neighbour land in. -/
abbrev lLoc (d : Dev nD) : Loc nD τ sig := (d : Thread nD τ).loc cc1_scratch1

/-- A half chunk holding an array's rows is the buffer held there at the array. -/
theorem cellP_part (e : Dev nD) (c : ℕ) (h : Fin 2) (q : PosShare TreeShare) (X : Vec F S1024x1024 .f32) :
    (cellP e c h q (part c h X) : sProp 𝕄) = (oLoc e ↦[rowSet c h]{q} X) := by
  unfold cellP owns
  refine both ?_ ?_
  · iintro ⟨%f, %hf, H⟩
    have hfX : ∀ i ∈ (rowM c h).view.set, f i = X i := fun i hi => by
      obtain ⟨x, -, rfl⟩ := Finset.mem_map.mp hi
      exact congrFun hf x
    iapply (Entails.of_eq (pointsTo_congr (ℓ := oLoc e) (q := q) (f := f) (g := X) hfX))
    iexact H
  · iintro H
    iexists X
    isplitr; · ipureintro; rfl
    iexact H

/-- The chunks' halves, counted from a device. -/
def blk (d : Dev nD) (p : Fin 16 × Fin 2) : Finset S1024x1024.Idx := rowSet (d.val + p.1.val) p.2

/-- Different half chunks share no entry. -/
theorem blk_disj (d : Dev nD) (p p' : Fin 16 × Fin 2) (hne : p ≠ p') : Disjoint (blk d p) (blk d p') := by
  refine Finset.disjoint_left.mpr fun i hi hi' => hne ?_
  unfold blk at hi hi'
  rw [mem_rowSet'] at hi hi'
  have := p.1.isLt; have := p'.1.isLt; have hd : d.val < 16 := d.isLt
  exact Prod.ext (Fin.ext (by omega)) (Fin.ext (by omega))

/-- The half chunks make up the whole array. -/
theorem blk_cover (d : Dev nD) : Finset.univ.biUnion (blk d) = Finset.univ := by
  ext i
  simp only [Finset.mem_biUnion, Finset.mem_univ, true_and, iff_true]
  have hd : d.val < 16 := d.isLt
  have hi : (i 0).val < 1024 := (i 0).isLt
  refine ⟨(⟨((i 0).val / 64 + 16 - d.val) % 16, Nat.mod_lt _ (by decide)⟩, ⟨(i 0).val / 32 % 2, Nat.mod_lt _ (by decide)⟩), ?_⟩
  unfold blk
  rw [mem_rowSet']
  exact ⟨by simp only []; omega, rfl⟩

/-- The result buffer at an array is all its half chunks at the array's rows. -/
theorem cells_whole (d : Dev nD) (X : Vec F S1024x1024 .f32) :
    (oLoc d ↦{fullShare} X : sProp 𝕄) = bigSepL chunks fun p => cellP d (d.val + p.1) p.2 fullShare (part (d.val + p.1) p.2 X) := by
  have hch : chunks = ((List.finRange 16).flatMap fun k => [(k, (0 : Fin 2)), (k, 1)]).map fun p : Fin 16 × Fin 2 => (p.1.val, p.2) := by decide
  rw [Ring.pointsTo_blocks (ℓ := oLoc d) (blk d) (blk_disj d) (blk_cover d), hch, bigSepL_map,
    bigSep_univ_eq_bigSepL ((List.finRange 16).flatMap fun k => [(k, (0 : Fin 2)), (k, 1)]) (by decide) (by decide)]
  congr 1
  funext p
  exact (cellP_part d (d.val + p.1.val) p.2 fullShare X).symm

/-! ## The slots -/

/-- Which entries of the first receive buffer a slot holds. -/
theorem mem_slotR {s : Fin 8} {h : Fin 2} {i : S16x32x1024.Idx} : i ∈ (slotM true s h).view.set ↔ (i 0).val = 2 * s.val + h.val := by
  rw [show (slotM true s h).view.set = (Rect.unit (s := S16x32x1024) ![2 * s.val + h.val, 0, 0] S1x32x1024.size (inbR s h)).set from
    (View.set_reshape _ _).trans (View.set_slice_whole cc1_scratch0 _)]
  refine Rect.mem_set_unit.trans ⟨fun H => ?_, fun H a => ?_⟩
  · have := H 0
    change 2 * s.val + h.val ≤ (i 0).val ∧ (i 0).val < 2 * s.val + h.val + 1 at this
    omega
  · match a with
    | 0 => show 2 * s.val + h.val ≤ (i 0).val ∧ (i 0).val < 2 * s.val + h.val + 1; omega
    | 1 => exact ⟨Nat.zero_le _, lt_of_lt_of_eq (i 1).isLt (Nat.zero_add _).symm⟩
    | 2 => exact ⟨Nat.zero_le _, lt_of_lt_of_eq (i 2).isLt (Nat.zero_add _).symm⟩
/-- Which entries of the second receive buffer a slot holds. -/
theorem mem_slotL {s : Fin 7} {h : Fin 2} {i : S14x32x1024.Idx} : i ∈ (slotM false s h).view.set ↔ (i 0).val = 2 * s.val + h.val := by
  rw [show (slotM false s h).view.set = (Rect.unit (s := S14x32x1024) ![2 * s.val + h.val, 0, 0] S1x32x1024.size (inbL s h)).set from
    (View.set_reshape _ _).trans (View.set_slice_whole cc1_scratch1 _)]
  refine Rect.mem_set_unit.trans ⟨fun H => ?_, fun H a => ?_⟩
  · have := H 0
    change 2 * s.val + h.val ≤ (i 0).val ∧ (i 0).val < 2 * s.val + h.val + 1 at this
    omega
  · match a with
    | 0 => show 2 * s.val + h.val ≤ (i 0).val ∧ (i 0).val < 2 * s.val + h.val + 1; omega
    | 1 => exact ⟨Nat.zero_le _, lt_of_lt_of_eq (i 1).isLt (Nat.zero_add _).symm⟩
    | 2 => exact ⟨Nat.zero_le _, lt_of_lt_of_eq (i 2).isLt (Nat.zero_add _).symm⟩

/-- A slot's elements of a direction's array of slots. -/
def slotR (p : Fin 8 × Fin 2) : Finset S16x32x1024.Idx := (slotM true p.1 p.2).view.set
/-- The entries of a slot of the second receive buffer. -/
def slotL (p : Fin 7 × Fin 2) : Finset S14x32x1024.Idx := (slotM false p.1 p.2).view.set

/-- Different slots of the first receive buffer share no entry. -/
theorem slotR_disj (p p' : Fin 8 × Fin 2) (hne : p ≠ p') : Disjoint (slotR p) (slotR p') := by
  refine Finset.disjoint_left.mpr fun i hi hi' => hne ?_
  have h1 := mem_slotR.mp hi; have h2 := mem_slotR.mp hi'
  have := p.2.isLt; have := p'.2.isLt
  exact Prod.ext (Fin.ext (by omega)) (Fin.ext (by omega))
/-- Different slots of the second receive buffer share no entry. -/
theorem slotL_disj (p p' : Fin 7 × Fin 2) (hne : p ≠ p') : Disjoint (slotL p) (slotL p') := by
  refine Finset.disjoint_left.mpr fun i hi hi' => hne ?_
  have h1 := mem_slotL.mp hi; have h2 := mem_slotL.mp hi'
  have := p.2.isLt; have := p'.2.isLt
  exact Prod.ext (Fin.ext (by omega)) (Fin.ext (by omega))

/-- The slots make up the first receive buffer. -/
theorem slotR_cover : Finset.univ.biUnion slotR = Finset.univ := by
  ext i
  simp only [Finset.mem_biUnion, Finset.mem_univ, true_and, iff_true]
  have hi : (i 0).val < 16 := (i 0).isLt
  exact ⟨(⟨(i 0).val / 2, by omega⟩, ⟨(i 0).val % 2, Nat.mod_lt _ (by decide)⟩), mem_slotR.mpr (show (i 0).val = 2 * ((i 0).val / 2) + (i 0).val % 2 by omega)⟩
/-- The slots make up the second receive buffer. -/
theorem slotL_cover : Finset.univ.biUnion slotL = Finset.univ := by
  ext i
  simp only [Finset.mem_biUnion, Finset.mem_univ, true_and, iff_true]
  have hi : (i 0).val < 14 := (i 0).isLt
  exact ⟨(⟨(i 0).val / 2, by omega⟩, ⟨(i 0).val % 2, Nat.mod_lt _ (by decide)⟩), mem_slotL.mpr (show (i 0).val = 2 * ((i 0).val / 2) + (i 0).val % 2 by omega)⟩

/-- A slot of the first receive buffer at anything, as a part of the buffer. -/
theorem slotAny_R (d : Dev nD) (p : Fin 8 × Fin 2) : (slotAny d true p.1 p.2 : sProp 𝕄) = iprop(∃ f, rLoc d ↦[slotR p]{fullShare} f) := by
  unfold slotAny slotP owns
  refine both ?_ ?_
  · iintro ⟨%X, %f, -, H⟩
    iexists f; iexact H
  · iintro ⟨%f, H⟩
    iexists (slotM true p.1 p.2).view.read (Elt F) f
    iexists f
    isplitr; · ipureintro; rfl
    iexact H
/-- A slot of the second receive buffer at anything, as a part of the buffer. -/
theorem slotAny_L (d : Dev nD) (p : Fin 7 × Fin 2) : (slotAny d false p.1 p.2 : sProp 𝕄) = iprop(∃ f, lLoc d ↦[slotL p]{fullShare} f) := by
  unfold slotAny slotP owns
  refine both ?_ ?_
  · iintro ⟨%X, %f, -, H⟩
    iexists f; iexact H
  · iintro ⟨%f, H⟩
    iexists (slotM false p.1 p.2).view.read (Elt F) f
    iexists f
    isplitr; · ipureintro; rfl
    iexact H

/-- The rightward array of slots, held at anything, is its slots held at anything. -/
theorem slotsR_whole (d : Dev nD) :
    (iprop(∃ f, rLoc d ↦{fullShare} f) : sProp 𝕄) ⊢ bigSep Finset.univ fun p : Fin 8 × Fin 2 => slotAny d true p.1 p.2 := by
  have key (f : Buf (Elt F) (rLoc d)) : (rLoc d ↦{fullShare} f : sProp 𝕄) ⊢ bigSep Finset.univ fun p : Fin 8 × Fin 2 => slotAny d true p.1 p.2 := by
    rw [Ring.pointsTo_blocks (ℓ := rLoc d) slotR slotR_disj slotR_cover f]
    refine bigSep_mono fun p _ => ?_
    rw [slotAny_R]
    have h : (rLoc d ↦[slotR p]{fullShare} f : sProp 𝕄) ⊢ iprop(∃ f, rLoc d ↦[slotR p]{fullShare} f) := by
      iintro H; iexists f; iexact H
    exact h
  iintro ⟨%f, H⟩
  iapply (key f)
  iexact H
/-- The second receive buffer, cut into its slots. -/
theorem slotsL_whole (d : Dev nD) :
    (iprop(∃ f, lLoc d ↦{fullShare} f) : sProp 𝕄) ⊢ bigSep Finset.univ fun p : Fin 7 × Fin 2 => slotAny d false p.1 p.2 := by
  have key (f : Buf (Elt F) (lLoc d)) : (lLoc d ↦{fullShare} f : sProp 𝕄) ⊢ bigSep Finset.univ fun p : Fin 7 × Fin 2 => slotAny d false p.1 p.2 := by
    rw [Ring.pointsTo_blocks (ℓ := lLoc d) slotL slotL_disj slotL_cover f]
    refine bigSep_mono fun p _ => ?_
    rw [slotAny_L]
    have h : (lLoc d ↦[slotL p]{fullShare} f : sProp 𝕄) ⊢ iprop(∃ f, lLoc d ↦[slotL p]{fullShare} f) := by
      iintro H; iexists f; iexact H
    exact h
  iintro ⟨%f, H⟩
  iapply (key f)
  iexact H

/-- The first receive buffer, put together from its slots. -/
theorem slotsR_join (d : Dev nD) :
    (bigSep Finset.univ fun p : Fin 8 × Fin 2 => slotAny d true p.1 p.2) ⊢ (iprop(∃ f, rLoc d ↦{fullShare} f) : sProp 𝕄) := by
  rw [bigSep_congr fun p _ => slotAny_R d p]
  exact Ring.pointsTo_blocks_join_exists (ℓ := rLoc d) slotR slotR_disj slotR_cover (fun _ => FloatOps.ofBits .f32 0)
/-- The second receive buffer, put together from its slots. -/
theorem slotsL_join (d : Dev nD) :
    (bigSep Finset.univ fun p : Fin 7 × Fin 2 => slotAny d false p.1 p.2) ⊢ (iprop(∃ f, lLoc d ↦{fullShare} f) : sProp 𝕄) := by
  rw [bigSep_congr fun p _ => slotAny_L d p]
  exact Ring.pointsTo_blocks_join_exists (ℓ := lLoc d) slotL slotL_disj slotL_cover (fun _ => FloatOps.ofBits .f32 0)

end Cert.KernelIdeal.Ring

end
-- ==== Proof.KernelIdeal.Walk.lean ====
/-
  The line can be walked: the decision that the tokens suffice at every step.
-/
module

public import proofs.«01_k».proof.Proof.KernelIdeal.Tokens

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal.Gen

/-- The line can be walked, and the goal is reached. -/
theorem walks : ((walk ops start0).bind (take goal)).isSome = true := by decide +kernel

/-- The line starts every transfer once. -/
theorem owed_ops : (owed ops).Perm allX := by decide +kernel

end Cert.KernelIdeal.Ring

end
-- ==== Proof.KernelIdeal.Open.lean ====
/-
  What a device brings to the exchange: its tokens, its share of the credits, and its own semaphores put under their invariants.
-/
module

public import proofs.«01_k».proof.Proof.KernelIdeal.Buffers
public import proofs.«01_k».proof.Proof.KernelIdeal.Walk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Cert.KernelIdeal.Gen

variable {F : FTy → Type} [FloatOps F]

local notation "𝕄" => MT nD τ sig ℕ (Elt F) ℕ UU ℕ

/-! ## Families -/

/-- A family of pairs is the pair of the families. -/
theorem family_sep {I : Type} [DecidableEq I] (s : Finset I) (Φ Ψ : I → sProp 𝕄) :
    bigSep s (fun i => iprop(Φ i ∗ Ψ i)) = iprop(bigSep s Φ ∗ bigSep s Ψ) := bigSep_sep' s Φ Ψ
/-- A family over the copies' semaphores: the send semaphores and the receive semaphores. -/
theorem family_kinds (Φ : Bool × Xfer → sProp 𝕄) :
    bigSep Finset.univ Φ = iprop(bigSep Finset.univ (fun t => Φ (false, t)) ∗ bigSep Finset.univ (fun t => Φ (true, t))) := by
  rw [bigSep_univ_prod]
  exact bigSep_univ_eq_bigSepL [false, true] (by decide) (by decide) _
/-- A family over a device's payments: arrivals, finished sends, signals. -/
theorem family_pays (Φ : PayIx → sProp 𝕄) :
    bigSep Finset.univ Φ = iprop(bigSep Finset.univ (fun t => Φ (.inl t)) ∗ bigSep Finset.univ (fun t => Φ (.inr (.inl t)))
      ∗ bigSep Finset.univ (fun b => Φ (.inr (.inr b)))) := by
  refine (bigSep_univ_sum Φ).trans ?_
  rw [bigSep_univ_sum]
  rfl
/-- A family over the two directions. -/
theorem family_bool (Φ : Bool → sProp 𝕄) : bigSep Finset.univ Φ = iprop(Φ false ∗ Φ true) :=
  bigSep_univ_eq_bigSepL [false, true] (by decide) (by decide) _

/-! ## Credits -/

/-- The credits for a device's own semaphores. -/
def due0 (d : Dev nD) : CellTallies nD τ sig ℕ :=
  tallyL ((owed ops).map fun t => (cellAt (d, .rcv t), lev t, N)) + tallyAt (cellAt (d, .bar)) 1 1 + tallyAt (cellAt (d, .bar)) 1 1

/-- The neighbours on one side are all the devices. -/
theorem tgt_bij (b : Bool) : Function.Bijective (tgt b) :=
  ⟨tgt_inj b, fun d => ⟨tgt (!b) d, tgt_tgt' b d⟩⟩

/-- A sum over the neighbours on one side is the sum over the devices. -/
theorem sum_tgt (b : Bool) (f : Dev nD → CellTallies nD τ sig ℕ) : (∑ d, f (tgt b d)) = ∑ d, f d :=
  (tgt_bij b).sum_comp f

/-- What all devices owe for a list of transfers is what all of them are due. -/
theorem sum_line (l : List Xfer) :
    (∑ d : Dev nD, owe d l) = ∑ d : Dev nD, (tallyL (l.map fun t => (cellAt (d, .rcv t), lev t, N)) : CellTallies nD τ sig ℕ) := by
  induction l with
  | nil => rfl
  | cons t l ih =>
    have h1 (d : Dev nD) : owe d (t :: l) = owe d l + tallyAt (cellAt (tgt t.rt d, .rcv t)) (lev t) N := owe_cons d t l
    have h2 (d : Dev nD) : (tallyL ((t :: l).map fun t => (cellAt (d, .rcv t), lev t, N)) : CellTallies nD τ sig ℕ)
        = tallyL (l.map fun t => (cellAt (d, .rcv t), lev t, N)) + tallyAt (cellAt (d, .rcv t)) (lev t) N := add_comm _ _
    rw [Finset.sum_congr rfl fun d _ => h1 d, Finset.sum_congr rfl fun d _ => h2 d, Finset.sum_add_distrib, Finset.sum_add_distrib, ih]
    congr 1
    exact sum_tgt t.rt fun d => tallyAt (cellAt (d, .rcv t)) (lev t) N

/-- What all devices owe at the start is what all of them are due. -/
theorem sum_owe0 : (∑ d : Dev nD, owe0 d) = ∑ d : Dev nD, due0 d := by
  unfold owe0 due0
  simp only [Finset.sum_add_distrib]
  rw [sum_line, sum_tgt true fun d => tallyAt (cellAt (d, .bar)) 1 1, sum_tgt false fun d => tallyAt (cellAt (d, .bar)) 1 1]

/-- A device is due only on its own semaphores. -/
theorem due0_own (d : Dev nD) (g : GSem nD τ sig) (h : due0 d g ≠ 0) : g.1 = (d.tc : Thread nD τ) := by
  obtain ⟨i, hi⟩ := DFunLike.ne_iff.mp h
  have hi' : 0 < due0 d g i := Nat.pos_of_ne_zero hi
  unfold due0 at hi'
  rw [Pi.add_apply, Finsupp.add_apply, Pi.add_apply, Finsupp.add_apply] at hi'
  rcases Nat.add_pos_iff_pos_or_pos.mp hi' with h | h
  · rcases Nat.add_pos_iff_pos_or_pos.mp h with h | h
    · obtain ⟨x, hx, rfl, rfl⟩ := TalkSites.tallyL_pos h
      obtain ⟨t, -, rfl⟩ := List.mem_map.mp hx
      rfl
    · obtain ⟨rfl, -⟩ := Pipeline.tallyAt_pos h
      rfl
  · obtain ⟨rfl, -⟩ := Pipeline.tallyAt_pos h
    rfl

/-- A device's share of the launch's credits. -/
theorem launch_credit (d : Dev nD) : (Pipeline.launchCred owe0 d : sProp 𝕄) = cred (due0 d) :=
  Pipeline.launchCred_of_sum owe0 due0 sum_owe0 due0_own d

/-- The credits, semaphore by semaphore. -/
theorem credits (d : Dev nD) :
    (cred (due0 d) : sProp 𝕄) ⊢ iprop((bigSep Finset.univ fun t : Xfer => cred (tallyAt (cellAt (d, .rcv t)) (lev t) N)) ∗ cred (tallyAt (cellAt (d, .bar)) 1 2)) := by
  have h1 : (cred (tallyL ((owed ops).map fun t => (cellAt (d, .rcv t), lev t, N))) : sProp 𝕄)
      = bigSep Finset.univ fun t : Xfer => cred (tallyAt (cellAt (d, .rcv t)) (lev t) N) := by
    rw [TalkSites.cred_tallyL, bigSepL_map]
    exact (bigSep_univ_eq_bigSepL (owed ops) (Finset.ext fun t => ⟨fun _ => List.mem_toFinset.mpr (owed_ops.mem_iff.mpr (mem_allX t)), fun _ => Finset.mem_univ _⟩)
      (owed_ops.nodup_iff.mpr allX_nodup) fun t : Xfer => cred (tallyAt (cellAt (d, .rcv t)) (lev t) N)).symm
  have h2 : due0 d = tallyL ((owed ops).map fun t => (cellAt (d, .rcv t), lev t, N)) + tallyAt (cellAt (d, .bar)) 1 2 := by
    unfold due0
    rw [add_assoc]
    exact congrArg (fun z => tallyL ((owed ops).map fun t => (cellAt (d, .rcv t), lev t, N)) + z) (tallyAt_add (cellAt (d, .bar)) 1 1 1)
  rw [h2, ← h1]
  exact (cred_add _ _).1

/-! ## The tokens -/

variable (P : Dev nD → Vec F S1024x1024 .f32) (κ : GSem nD τ sig → ℕ) (d : Dev nD)

/-- What a transfer needs on the side of its sender, and of its receiver. -/
def sendKit (t : Xfer) : sProp 𝕄 :=
  iprop(dutyTok ER (cellAt (tgt t.rt d, .rcv t)) 0 false ∗ dutyTok ER (cellAt (d, .snd t)) 0 false ∗ reached ER (cellAt (d, .snd t)) 0
      ∗ atPos ER (cellAt (d, .snd t)) 0 ∅ 0)
/-- What a transfer needs on the side of its receiver. -/
def recvKit (t : Xfer) : sProp 𝕄 :=
  iprop(cred (tallyAt (cellAt (d, .rcv t)) (lev t) N) ∗ atPos ER (cellAt (d, .rcv t)) 0 ∅ 0)

/-- Everything a device brings to the exchange. -/
def brings : sProp 𝕄 :=
  iprop(atPos ER (cellAt (d, .bar)) 0 ∅ 0 ∗ (bigSep Finset.univ fun b => reached ER (cellAt (tgt b d, .bar)) 0)
    ∗ (bigSep Finset.univ fun b => dutyTok ER (cellAt (tgt (!b) d, .bar)) 0 b) ∗ cred (tallyAt (cellAt (d, .bar)) 1 2)
    ∗ (bigSep Finset.univ fun t : Xfer => reached ER (cellAt (d, .rcv t)) 0)
    ∗ (bigSep Finset.univ (sendKit d)) ∗ bigSep Finset.univ (recvKit d))

/-- What the second kernel starts the exchange with. -/
def Xk : sProp 𝕄 := iprop(∃ κ, ctx P κ ∗ brings d)

/-- The neighbours. -/
def nbs (d : Dev nD) : Finset (Dev nD) := Finset.univ.image fun b => tgt b d

/-- What a device has of the exchange from the program's launch on. -/
def Tk : sProp 𝕄 := iprop(fam.launched ER (Rd P) nbs d ∗ cred (due0 d))

/-- A device's payments as tokens, its semaphores of the copies. -/
def tokE : PayIx ↪ GSem nD τ sig × ℕ × Bool := ⟨fun x => tok (d, x), fun _ _ h => congrArg Prod.snd (tok_inj h)⟩
/-- A device's semaphores of the copies, as an embedding. -/
def osemE : Bool × Xfer ↪ SemLoc sig := ⟨osem, osem_inj⟩

/-- The family's tokens of a device. -/
theorem fam_toks : fam.toks d 0 = Finset.univ.map (tokE d) := by dsimp only [fam]; rfl
/-- The family's semaphores of the copies. -/
theorem fam_dorm : fam.dorm 0 = Finset.univ.map osemE := by dsimp only [fam]; rfl

/-- The token of an arrival. -/
theorem tokE_lands (t : Xfer) : tokE d (.inl t) = (cellAt (tgt t.rt d, .rcv t), 0, false) := rfl
/-- The token of a finished send. -/
theorem tokE_leaves (t : Xfer) : tokE d (.inr (.inl t)) = (cellAt (d, .snd t), 0, false) := rfl
/-- The token of a signal. -/
theorem tokE_meets (b : Bool) : tokE d (.inr (.inr b)) = (cellAt (tgt (!b) d, .bar), 0, b) := rfl

/-- A device's tokens, by what they pay. -/
theorem toks_eq : (bigSep (fam.toks d 0) fun x => dutyTok ER x.1 x.2.1 x.2.2 : sProp 𝕄)
    = iprop((bigSep Finset.univ fun t : Xfer => dutyTok ER (cellAt (tgt t.rt d, .rcv t)) 0 false)
      ∗ (bigSep Finset.univ fun t : Xfer => dutyTok ER (cellAt (d, .snd t)) 0 false)
      ∗ bigSep Finset.univ fun b => dutyTok ER (cellAt (tgt (!b) d, .bar)) 0 b) := by
  rw [fam_toks, bigSep_map, family_pays]
  simp only [tokE_lands, tokE_leaves, tokE_meets]

/-- The dormant semaphores are those of the copies. -/
theorem dorm_eq : (bigSep (fam.dorm 0) fun sm => openTok ER ((d : Thread nD τ), sm) : sProp 𝕄)
    = bigSep Finset.univ fun k : Bool × Xfer => openTok ER ((d : Thread nD τ), osem k) := by
  rw [fam_dorm, bigSep_map]
  rfl

/-- The semaphore of a send. -/
theorem osem_snd (t : Xfer) : osem (false, t) = semOf (.snd t) := rfl
/-- The semaphore of an arrival. -/
theorem osem_rcv (t : Xfer) : osem (true, t) = semOf (.rcv t) := rfl

/-- The open semaphores of the copies, by kind. -/
theorem own_kinds :
    (bigSep Finset.univ fun k : Bool × Xfer => iprop(atPos ER ((d : Thread nD τ), osem k) 0 ∅ 0 ∗ reached ER ((d : Thread nD τ), osem k) 0) : sProp 𝕄)
      = iprop((bigSep Finset.univ (fun t : Xfer => atPos ER (cellAt (d, .snd t)) 0 ∅ 0) ∗ bigSep Finset.univ fun t : Xfer => atPos ER (cellAt (d, .rcv t)) 0 ∅ 0)
        ∗ (bigSep Finset.univ (fun t : Xfer => reached ER (cellAt (d, .snd t)) 0) ∗ bigSep Finset.univ fun t : Xfer => reached ER (cellAt (d, .rcv t)) 0)) := by
  rw [family_sep, family_kinds, family_kinds]
  simp only [osem_snd, osem_rcv]

/-- One of the copies' semaphores is under its invariant. -/
theorem inv_own (k : Bool × Xfer) : invs P κ ⊢ (cellInv ER (Rd P) (κ ((d : Thread nD τ), osem k)) ((d : Thread nD τ), osem k) : sProp 𝕄) := by
  obtain ⟨b, t⟩ := k
  cases b
  · rw [osem_snd]; exact inv_at P κ d (.snd t)
  · rw [osem_rcv]; exact inv_at P κ d (.rcv t)

/-- A semaphore of a copy at zero is opened for its round. -/
theorem open_one (k : Bool × Xfer) :
    iprop(invs P κ ∗ (openTok ER ((d : Thread nD τ), osem k) ∗ semVal ((d : Thread nD τ), osem k) 0))
      ⊢ (|={Set.univ}=> iprop(atPos ER ((d : Thread nD τ), osem k) 0 ∅ 0 ∗ reached ER ((d : Thread nD τ), osem k) 0) : sProp 𝕄) := by
  have h := inv_own P κ d k
  generalize osem k = sm at *
  iintro ⟨#HI, H1, H2⟩
  iapply (Rounds.cell_open ER (Rd P) (g := ((d : Thread nD τ), sm)) (Set.mem_univ (κ ((d : Thread nD τ), sm))))
  isplitr; · iapply h; iexact HI
  isplitl [H1] <;> iassumption

/-- Opening the own semaphores. -/
theorem open_own :
    iprop(invs P κ ∗ (bigSep Finset.univ fun k : Bool × Xfer => openTok ER ((d : Thread nD τ), osem k)) ∗ bigSep Finset.univ fun k : Bool × Xfer => semVal ((d : Thread nD τ), osem k) 0)
      ⊢ (|={Set.univ}=> iprop((bigSep Finset.univ (fun t : Xfer => atPos ER (cellAt (d, .snd t)) 0 ∅ 0) ∗ bigSep Finset.univ fun t : Xfer => atPos ER (cellAt (d, .rcv t)) 0 ∅ 0)
        ∗ (bigSep Finset.univ (fun t : Xfer => reached ER (cellAt (d, .snd t)) 0) ∗ bigSep Finset.univ fun t : Xfer => reached ER (cellAt (d, .rcv t)) 0)) : sProp 𝕄) := by
  rw [← own_kinds, ← family_sep Finset.univ (fun k : Bool × Xfer => openTok ER ((d : Thread nD τ), osem k)) fun k => semVal ((d : Thread nD τ), osem k) 0]
  exact fupd_family Finset.univ (invs P κ) (fun k : Bool × Xfer => iprop(openTok ER ((d : Thread nD τ), osem k) ∗ semVal ((d : Thread nD τ), osem k) 0))
    (fun k => iprop(atPos ER ((d : Thread nD τ), osem k) 0 ∅ 0 ∗ reached ER ((d : Thread nD τ), osem k) 0)) (open_one P κ d)

/-- The neighbours' meeting semaphores are open. -/
theorem nbs_reached : (bigSep (nbs d) fun n => reached ER (cellAt (n, .bar)) 0 : sProp 𝕄) ⊢ bigSep Finset.univ fun b => reached ER (cellAt (tgt b d, .bar)) 0 := by
  rw [family_bool]
  have h (b : Bool) : (bigSep (nbs d) fun n => reached ER (cellAt (n, .bar)) 0 : sProp 𝕄) ⊢ reached ER (cellAt (tgt b d, .bar)) 0 :=
    bigSep_elim (Finset.mem_image_of_mem _ (Finset.mem_univ b))
  iintro #H
  isplitr
  · iapply (h false); iexact H
  iapply (h true); iexact H

/-- The sender's kits, put together. -/
theorem send_kits :
    iprop((bigSep Finset.univ fun t : Xfer => dutyTok ER (cellAt (tgt t.rt d, .rcv t)) 0 false)
      ∗ (bigSep Finset.univ fun t : Xfer => dutyTok ER (cellAt (d, .snd t)) 0 false)
      ∗ (bigSep Finset.univ fun t : Xfer => reached ER (cellAt (d, .snd t)) 0)
      ∗ bigSep Finset.univ fun t : Xfer => atPos ER (cellAt (d, .snd t)) 0 ∅ 0) ⊢ (bigSep Finset.univ (sendKit d) : sProp 𝕄) := by
  rw [← family_sep, ← family_sep, ← family_sep]
  exact BI.Entails.refl _
/-- The receiver's kits, put together. -/
theorem recv_kits :
    iprop((bigSep Finset.univ fun t : Xfer => cred (tallyAt (cellAt (d, .rcv t)) (lev t) N))
      ∗ bigSep Finset.univ fun t : Xfer => atPos ER (cellAt (d, .rcv t)) 0 ∅ 0) ⊢ (bigSep Finset.univ (recvKit d) : sProp 𝕄) := by
  rw [← family_sep]
  exact BI.Entails.refl _

end Cert.KernelIdeal.Ring

end
-- ==== Proof.KernelIdeal.Opening.lean ====
/-
  The opening of the exchange on a device.
-/
module

public import proofs.«01_k».proof.Proof.KernelIdeal.Open

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Cert.KernelIdeal.Gen

variable {F : FTy → Type} [FloatOps F]

local notation "𝕄" => MT nD τ sig ℕ (Elt F) ℕ UU ℕ

variable (P : Dev nD → Vec F S1024x1024 .f32) (d : Dev nD)

/-- The family's barrier is the meeting's semaphore. -/
theorem fam_bar : fam.bar = semOf .bar := by dsimp only [fam]

/-- There is one launch in the family. -/
theorem rides_one : (bigSep Finset.univ fun j : Fin 1 => fam.rides ER (Rd P) d j : sProp 𝕄) = fam.rides ER (Rd P) d 0 :=
  bigSep_univ_eq_bigSepL [(0 : Fin 1)] (by decide) (by decide) _

/-- What the barrier's position consists of. -/
theorem pos_parts : (fam.barPos ER (Rd P) d 0 (nbs d) : sProp 𝕄)
    ⊢ iprop(atPos ER (cellAt (d, .bar)) 0 ∅ 0 ∗ bigSep (nbs d) fun n => reached ER (cellAt (n, .bar)) 0) := by
  unfold Fam.barPos
  rw [fam_bar]
  generalize (iprop(∃ κ, fam.cellInvs ER (Rd P) κ) : sProp 𝕄) = A
  iintro ⟨-, H1, H2⟩
  isplitl [H1] <;> iassumption

/-- What a device has for the exchange besides. -/
theorem ride_parts : (fam.rides ER (Rd P) d 0 : sProp 𝕄)
    ⊢ iprop((∃ κ, invs P κ) ∗ (bigSep Finset.univ fun k : Bool × Xfer => openTok ER ((d : Thread nD τ), osem k))
      ∗ (bigSep Finset.univ fun t : Xfer => dutyTok ER (cellAt (tgt t.rt d, .rcv t)) 0 false)
      ∗ (bigSep Finset.univ fun t : Xfer => dutyTok ER (cellAt (d, .snd t)) 0 false)
      ∗ bigSep Finset.univ fun b => dutyTok ER (cellAt (tgt (!b) d, .bar)) 0 b) := by
  unfold Fam.rides invs
  rw [toks_eq, dorm_eq]

/-- What a device has of the exchange from the launch on, in parts. -/
theorem Tk_parts : (Tk P d : sProp 𝕄)
    ⊢ iprop((atPos ER (cellAt (d, .bar)) 0 ∅ 0 ∗ bigSep (nbs d) fun n => reached ER (cellAt (n, .bar)) 0)
      ∗ ((∃ κ, invs P κ) ∗ (bigSep Finset.univ fun k : Bool × Xfer => openTok ER ((d : Thread nD τ), osem k))
      ∗ (bigSep Finset.univ fun t : Xfer => dutyTok ER (cellAt (tgt t.rt d, .rcv t)) 0 false)
      ∗ (bigSep Finset.univ fun t : Xfer => dutyTok ER (cellAt (d, .snd t)) 0 false)
      ∗ bigSep Finset.univ fun b => dutyTok ER (cellAt (tgt (!b) d, .bar)) 0 b) ∗ cred (due0 d)) := by
  have h1 := pos_parts P d
  have h2 := ride_parts P d
  unfold Tk Fam.launched
  rw [rides_one]
  iintro ⟨⟨H1, H2⟩, H3⟩
  isplitl [H1]; · iapply h1; iexact H1
  isplitl [H2]; · iapply h2; iexact H2
  iexact H3

/-- At the exchange's start. -/
theorem opening :
    iprop(Tk P d ∗ (bigSep Finset.univ fun k : Bool × Xfer => semVal ((d : Thread nD τ), osem k) 0) ∗ levAts (SiteBlocks.L NL) SiteBlocks.lv) ⊢ (|={Set.univ}=> Xk P d : sProp 𝕄) := by
  have hop := open_own P
  unfold Xk brings
  iintro ⟨HT, Hv, #Hlev⟩
  ihave HT' := (Tk_parts P d) $$ HT
  icases HT' with ⟨⟨Hat, Hnb⟩, ⟨⟨%κ, #HI⟩, Hop, HtR, HtS, HtB⟩, Hcr⟩
  ihave Hc := (credits d) $$ Hcr
  icases Hc with ⟨HcR, HcB⟩
  ihave Hnb' := (nbs_reached d) $$ Hnb
  imod (hop κ d) $$ [Hop Hv] with ⟨⟨HaS, HaR⟩, ⟨HrS, HrR⟩⟩
  · isplitr; · iexact HI
    isplitl [Hop] <;> iassumption
  imodintro
  iexists κ
  isplitr
  · isplitr; · iexact Hlev
    iexact HI
  isplitl [Hat]; · iexact Hat
  isplitl [Hnb']; · iexact Hnb'
  isplitl [HtB]; · iexact HtB
  isplitl [HcB]; · iexact HcB
  isplitl [HrR]; · iexact HrR
  isplitl [HtR HtS HrS HaS]
  · iapply (send_kits d)
    isplitl [HtR]; · iexact HtR
    isplitl [HtS]; · iexact HtS
    isplitl [HrS]; · iexact HrS
    iexact HaS
  iapply (recv_kits d)
  isplitl [HcR]; · iexact HcR
  iexact HaR

end Cert.KernelIdeal.Ring

end
-- ==== Proof.KernelIdeal.Ends.lean ====
/-
  The buffers and tokens in front of the line, and what comes back behind it.
-/
module

public import proofs.«01_k».proof.Proof.KernelIdeal.Opening

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Cert.KernelIdeal.Gen

variable {F : FTy → Type} [FloatOps F]

local notation "𝕄" => MT nD τ sig ℕ (Elt F) ℕ UU ℕ

variable (P : Dev nD → Vec F S1024x1024 .f32) (κ : GSem nD τ sig → ℕ) (d : Dev nD)

/-! ## The meeting -/

/-- What a device gives the neighbour that will write to it. -/
theorem give_dir (b : Bool) :
    iprop((bigSep Finset.univ fun t : Xfer => reached ER (cellAt (d, .rcv t)) 0) ∗ bigSep Finset.univ fun p : Fin (len b) × Fin 2 => slotAny d b p.1 p.2)
      ⊢ (bigSep (Finset.univ.filter fun t : Xfer => t.rt = b) (hand d) : sProp 𝕄) := by
  rw [bigSep_dir]
  have h1 (p : Fin (len b) × Fin 2) (_ : p ∈ Finset.univ) :
      iprop((bigSep Finset.univ fun t : Xfer => reached ER (cellAt (d, .rcv t)) 0) ∗ slotAny d b p.1 p.2) ⊢ (hand d (embX false b p) : sProp 𝕄) := by
    have e : (bigSep Finset.univ fun t : Xfer => reached ER (cellAt (d, .rcv t)) 0 : sProp 𝕄) ⊢ reached ER (cellAt (d, .rcv (embX false b p))) 0 :=
      bigSep_elim (Finset.mem_univ _)
    rw [show (hand d (embX false b p) : sProp 𝕄) = iprop(reached ER (cellAt (d, .rcv (embX false b p))) 0 ∗ slotAny d b p.1 p.2) from rfl]
    iintro ⟨#H1, H2⟩
    isplitr; · iapply e; iexact H1
    iexact H2
  have h2 (p : Fin (len b) × Fin 2) (_ : p ∈ Finset.univ) :
      iprop((bigSep Finset.univ fun t : Xfer => reached ER (cellAt (d, .rcv t)) 0) ∗ emp) ⊢ (hand d (embX true b p) : sProp 𝕄) := by
    have e : (bigSep Finset.univ fun t : Xfer => reached ER (cellAt (d, .rcv t)) 0 : sProp 𝕄) ⊢ reached ER (cellAt (d, .rcv (embX true b p))) 0 :=
      bigSep_elim (Finset.mem_univ _)
    rw [show (hand d (embX true b p) : sProp 𝕄) = iprop(reached ER (cellAt (d, .rcv (embX true b p))) 0 ∗ emp) from rfl]
    iintro ⟨#H1, -⟩
    isplitr; · iapply e; iexact H1
    iempintro
  have h3 : (iprop(emp) : sProp 𝕄) ⊢ bigSep Finset.univ fun _ : Fin (len b) × Fin 2 => iprop(emp) := by
    generalize (Finset.univ : Finset (Fin (len b) × Fin 2)) = s
    induction s using Finset.induction_on with
    | empty => rw [bigSep_empty]; exact BI.Entails.refl _
    | insert i s hi ih =>
      rw [family_insert hi]
      iintro -
      isplitr; · iempintro
      iapply ih
      iempintro
  iintro ⟨#H1, H2⟩
  isplitl [H2]
  · iapply (bigSep_with_persistent h1)
    isplitr; · iexact H1
    iexact H2
  iapply (bigSep_with_persistent h2)
  isplitr; · iexact H1
  iapply h3
  iempintro

/-- What a device gives with its signal to a neighbour. -/
theorem give_bar (b : Bool) :
    iprop((bigSep Finset.univ fun t : Xfer => reached ER (cellAt (d, .rcv t)) 0) ∗ bigSep Finset.univ fun p : Fin (len b) × Fin 2 => slotAny d b p.1 p.2)
      ⊢ (payBar (tgt (!b) d) b : sProp 𝕄) := by
  unfold payBar
  rw [tgt_tgt']
  exact give_dir d b

/-- What a device gets from both neighbours. -/
theorem got_bar : (iprop(payBar d false ∗ payBar d true) : sProp 𝕄) ⊢ bigSep Finset.univ fun t : Xfer => hand (tgt t.rt d) t := by
  rw [bigSep_dirs]
  unfold payBar
  have h (b : Bool) : (bigSep (Finset.univ.filter fun t : Xfer => t.rt = b) (hand (tgt b d)) : sProp 𝕄)
      ⊢ bigSep (Finset.univ.filter fun t : Xfer => t.rt = b) fun t => hand (tgt t.rt d) t :=
    bigSep_mono fun t ht => by rw [(Finset.mem_filter.mp ht).2]; exact BI.Entails.refl _
  iintro ⟨H1, H2⟩
  isplitl [H1]
  · iapply (h false); iexact H1
  iapply (h true); iexact H2

/-! ## In front of the line -/

/-- At the start every chunk is held whole and holds the device's own partial sum. -/
theorem has0_full (k : ℕ) : (has0 k).share = fullShare ∧ (has0 k).arr P d k = P d := by
  unfold has0
  split_ifs with h8 h9
  · subst h8
    refine ⟨rfl, ?_⟩
    show P (dev (who true (d.val + 8) 0)) = P d
    have : dev (who true (d.val + 8) 0) = d := by revert d; decide
    rw [this]
  · subst h9
    refine ⟨rfl, ?_⟩
    show P (dev (who false (d.val + 9) 0)) = P d
    have : dev (who false (d.val + 9) 0) = d := by revert d; decide
    rw [this]
  · exact ⟨rfl, rfl⟩

/-- The result buffer, holding the partial sum, cut into half chunks as the line wants them. -/
theorem cells_front : (oLoc d ↦{fullShare} (P d) : sProp 𝕄) ⊢ held P d (chunks.map fun p => .cell p.1 p.2 (has0 p.1)) := by
  unfold held
  rw [cells_whole, bigSepL_map]
  refine bigSepL_mono fun p _ => ?_
  show _ ⊢ cellP d (d.val + p.1) p.2 (has0 p.1).share (part (d.val + p.1) p.2 ((has0 p.1).arr P d p.1))
  rw [(has0_full P d p.1).1, (has0_full P d p.1).2]

/-- An empty range of outdated copies is nothing. -/
theorem stale_none (c : ℕ) (h : Fin 2) : (stale c h 8 7 : sProp 𝕄) = iprop(emp) := by
  unfold stale
  rw [show Finset.Icc 8 7 = (∅ : Finset ℕ) from by decide, bigSep_empty]
  rfl

/-- At the start no outdated copies are held. -/
theorem stale_front : (iprop(emp) : sProp 𝕄) ⊢ held P d [.stale 8 0 8 7, .stale 8 1 8 7, .stale 9 0 8 7, .stale 9 1 8 7] := by
  simp only [held_cons, held_nil, Res.prop, stale_none]
  iintro -
  repeat (isplitr; · iempintro)
  iempintro

/-- The sender's kits and what the meeting brought are the tokens for starting every transfer. -/
theorem go_front :
    iprop(bigSep Finset.univ (sendKit d) ∗ bigSep Finset.univ fun t : Xfer => hand (tgt t.rt d) t) ⊢ (held P d (allX.map .go) : sProp 𝕄) := by
  unfold held
  rw [bigSepL_map, bigSepL_allX, ← family_sep Finset.univ (sendKit d) fun t : Xfer => hand (tgt t.rt d) t]
  refine bigSep_mono fun t _ => ?_
  have h : iprop(sendKit d t ∗ hand (tgt t.rt d) t) ⊢ ((Res.go t).prop P d : sProp 𝕄) := by
    unfold sendKit Res.prop
    iintro ⟨⟨H1, H2, H3, H4⟩, H5⟩
    isplitl [H1]; · iexact H1
    isplitl [H2]; · iexact H2
    isplitl [H3]; · iexact H3
    isplitl [H4] <;> iassumption
  exact h

/-- The receiver's kits are the tokens for waiting for every arrival. -/
theorem due_front : (bigSep Finset.univ (recvKit d) : sProp 𝕄) ⊢ held P d (allX.map .due) := by
  unfold held
  rw [bigSepL_map, bigSepL_allX]
  exact bigSep_mono fun t _ => BI.Entails.refl _

/-- All that the line starts from. -/
theorem front :
    iprop(bigSep Finset.univ (sendKit d) ∗ (bigSep Finset.univ fun t : Xfer => hand (tgt t.rt d) t) ∗ bigSep Finset.univ (recvKit d) ∗ (oLoc d ↦{fullShare} (P d)))
      ⊢ (held P d start0 : sProp 𝕄) := by
  unfold start0
  rw [held_append, held_append, held_append]
  iintro ⟨H1, H2, H3, H4⟩
  isplitl [H1 H2]
  · iapply (go_front P d)
    isplitl [H1] <;> iassumption
  isplitl [H3]
  · iapply (due_front P d); iexact H3
  isplitl [H4]
  · iapply (cells_front P d); iexact H4
  iapply (stale_front P d)
  iempintro

/-! ## Behind the line -/

/-- At the end the half chunks make up the result buffer, holding the sum over the devices. -/
theorem cells_back : (held P d (chunks.flatMap fun p => (hasEnd p.1).map (.cell p.1 p.2)) : sProp 𝕄) ⊢ oLoc d ↦{fullShare} (total P) := by
  unfold held
  rw [cells_whole, bigSepL_flatMap]
  refine bigSepL_mono fun p _ => ?_
  have h : (held P d ((hasEnd p.1).map (.cell p.1 p.2)) : sProp 𝕄) ⊢ cellP d (d.val + p.1) p.2 fullShare (part (d.val + p.1) p.2 (total P)) := by
    unfold hasEnd
    split_ifs
    · simp only [List.map_cons, List.map_nil, held_cons, held_nil, Res.prop, Has.share, Has.arr]
      iintro ⟨H1, H2, -⟩
      iapply (cell_whole d (d.val + p.1) p.2 (part (d.val + p.1) p.2 (total P)))
      isplitl [H1]; · iexact H1
      iexact H2
    · simp only [List.map_cons, List.map_nil, held_cons, held_nil, Res.prop, Has.share, Has.arr]
      iintro ⟨H1, -⟩
      iexact H1
  exact h

/-- At the end the slots make up the two receive buffers. -/
theorem slots_back : (held P d (slots.map (.slot · false)) : sProp 𝕄) ⊢ iprop((∃ f, rLoc d ↦{fullShare} f) ∗ ∃ f, lLoc d ↦{fullShare} f) := by
  unfold held
  rw [bigSepL_map, bigSepL_slots]
  have h1 := slotsR_join (F := F) d
  have h2 := slotsL_join (F := F) d
  iintro ⟨H1, H2⟩
  isplitl [H1]
  · iapply h1; iexact H1
  iapply h2; iexact H2

/-- At the end every semaphore of a copy has gone through its round. -/
theorem pos_back : (iprop(held P d (allX.map .got) ∗ held P d (allX.map .over)) : sProp 𝕄)
    ⊢ bigSep Finset.univ fun k : Bool × Xfer => atPos ER ((d : Thread nD τ), osem k) (0 + 1) ∅ 0 := by
  rw [family_kinds]
  simp only [osem_snd, osem_rcv]
  unfold held
  rw [bigSepL_map, bigSepL_map, bigSepL_allX, bigSepL_allX]
  have h : (iprop((bigSep Finset.univ fun t : Xfer => atPos ER (cellAt (d, .rcv t)) (0 + 1) ∅ 0) ∗ bigSep Finset.univ fun t : Xfer => atPos ER (cellAt (d, .snd t)) (0 + 1) ∅ 0) : sProp 𝕄)
      ⊢ iprop((bigSep Finset.univ fun t : Xfer => atPos ER (cellAt (d, .snd t)) (0 + 1) ∅ 0) ∗ bigSep Finset.univ fun t : Xfer => atPos ER (cellAt (d, .rcv t)) (0 + 1) ∅ 0) := by
    iintro ⟨H1, H2⟩
    isplitl [H2] <;> iassumption
  exact h

/-- A semaphore of a copy that has gone through its round is back at zero. -/
theorem close_one (k : Bool × Xfer) :
    iprop(invs P κ ∗ atPos ER ((d : Thread nD τ), osem k) (0 + 1) ∅ 0) ⊢ (|={Set.univ}=> semVal ((d : Thread nD τ), osem k) 0 : sProp 𝕄) := by
  have h := inv_own P κ d k
  generalize osem k = sm at *
  iintro ⟨#HI, H⟩
  iapply (Rounds.cell_close ER (Rd P) (g := ((d : Thread nD τ), sm)) (Set.mem_univ (κ ((d : Thread nD τ), sm))) id (duties_later P ((d : Thread nD τ), sm)))
  isplitr; · iapply h; iexact HI
  iexact H

/-- Closing the own semaphores. -/
theorem close_own :
    iprop(invs P κ ∗ bigSep Finset.univ fun k : Bool × Xfer => atPos ER ((d : Thread nD τ), osem k) (0 + 1) ∅ 0)
      ⊢ (|={Set.univ}=> bigSep Finset.univ fun k : Bool × Xfer => semVal ((d : Thread nD τ), osem k) 0 : sProp 𝕄) :=
  fupd_family Finset.univ (invs P κ) (fun k : Bool × Xfer => atPos ER ((d : Thread nD τ), osem k) (0 + 1) ∅ 0)
    (fun k => semVal ((d : Thread nD τ), osem k) 0) (close_one P κ d)

/-- What the exchange leaves on a device. -/
def leaves : sProp 𝕄 :=
  iprop((bigSep Finset.univ fun k : Bool × Xfer => semVal ((d : Thread nD τ), osem k) 0) ∗ (oLoc d ↦{fullShare} (total P))
    ∗ (∃ f, rLoc d ↦{fullShare} f) ∗ ∃ f, lLoc d ↦{fullShare} f)

/-- The line's goal leaves the result, the receive buffers and all semaphores at zero. -/
theorem back : iprop(invs P κ ∗ held P d goal) ⊢ (|={Set.univ}=> leaves P d : sProp 𝕄) := by
  unfold goal leaves
  rw [held_append, held_append, held_append]
  have hc := close_own P κ d
  iintro ⟨#HI, H1, H2, H3, H4⟩
  ihave Hp := (pos_back P d) $$ [H1 H2]
  · isplitl [H1] <;> iassumption
  imod hc $$ [Hp] with Hv
  · isplitr; · iexact HI
    iexact Hp
  ihave Hs := (slots_back P d) $$ H4
  imodintro
  isplitl [Hv]; · iexact Hv
  isplitl [H3]
  · iapply (cells_back P d); iexact H3
  iexact Hs

end Cert.KernelIdeal.Ring

end
-- ==== Proof.KernelIdeal.Body.lean ====
/-
  The exchange's body, run on one device.
-/
module

public import proofs.«01_k».proof.Proof.KernelIdeal.Ends

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Cert.KernelIdeal.Gen

variable {F : FTy → Type} [FloatOps F]

local notation "𝕄" => MT nD τ sig ℕ (Elt F) ℕ UU ℕ

variable (P : Dev nD → Vec F S1024x1024 .f32) (κ : GSem nD τ sig → ℕ) (d : Dev nD)
variable (k : Prog (TpuEff nD τ sig (Elt F) Λ₀ .tc) PUnit) (Q : PUnit → sProp (MT nD τ sig ℕ (Elt F) ℕ UU ℕ))

/-- What a device keeps of the meeting semaphore. -/
def Yk : sProp 𝕄 := iprop((∃ κ, invs P κ) ∗ atPos ER (cellAt (d, .bar)) (0 + 1) ∅ 0)

/-- A signal to a neighbour, with the slots that neighbour will write. -/
theorem signal_step (I : sProp 𝕄) [BI.Persistent I] (hI : I ⊢ invs P κ) (b : Bool) (O O₀ : CellTallies nD τ sig ℕ) (hO : O₀ = O + tallyAt (cellAt (tgt (!b) d, .bar)) 1 1) (W : Waits sig ℕ) :
    iprop(I ∗ owes (d : Thread nD τ) O₀ W ∗ dutyTok ER (cellAt (tgt (!b) d, .bar)) 0 b ∗ reached ER (cellAt (tgt (!b) d, .bar)) 0
        ∗ (bigSep Finset.univ fun t : Xfer => reached ER (cellAt (d, .rcv t)) 0) ∗ bigSep Finset.univ fun p : Fin (len b) × Fin 2 => slotAny d b p.1 p.2)
      ⊢ (iprop((owes (d : Thread nD τ) O W -∗ run d k Q) -∗ run d (.op (.semSignal (Dev.tc (tgt (!b) d)) barSem 1) fun _ => k) Q) : sProp 𝕄) := by
  have hi := hI.trans (inv_at P κ (tgt (!b) d) .bar)
  have hg : iprop((bigSep Finset.univ fun t : Xfer => reached ER (cellAt (d, .rcv t)) 0) ∗ bigSep Finset.univ fun p : Fin (len b) × Fin 2 => slotAny d b p.1 p.2)
      ⊢ ((Rd P).payload (cellAt (tgt (!b) d, .bar)) 0 b : sProp 𝕄) := by rw [payload_at P (tgt (!b) d) b .bar]; exact give_bar d b
  iintro ⟨#HI, HO, Ht, Hr, Hrc, Hs⟩
  iapply (Rounds.wp_signal 𝒱₀ ER (Rd P) (d : Thread nD τ) none (dst := (tgt (!b) d : Thread nD τ)) (sem := barSem) (r := 0) (d := b) (κ := κ (cellAt (tgt (!b) d, .bar)))
    (by rw [duties_at P (tgt (!b) d) .bar]; exact Finset.mem_univ _) (k' := 1) (k := fun _ => k) (amount_at P (tgt (!b) d) b .bar) 1 O hO (W := W))
  isplitr; · iapply hi; iexact HI
  isplitl [HO]; · iexact HO
  isplitl [Ht]; · iexact Ht
  isplitr [Hr]
  · iapply hg
    isplitl [Hrc] <;> iassumption
  iexact Hr

/-- Waiting for both neighbours. -/
theorem meet_step (I J : sProp 𝕄) [BI.Persistent I] [BI.Persistent J] (hI : I ⊢ invs P κ) (hJ : J ⊢ levAts (SiteBlocks.L NL) SiteBlocks.lv)
    (W : Waits sig ℕ) :
    iprop((J ∗ I) ∗ cred (tallyAt (cellAt (d, .bar)) 1 2) ∗ owes (d : Thread nD τ) (owe d (owed ops)) W ∗ atPos ER (cellAt (d, .bar)) 0 ∅ 0)
      ⊢ (iprop(((owing d (owed ops) ∗ atPos ER (cellAt (d, .bar)) (0 + 1) ∅ 0 ∗ bigSep Finset.univ fun t : Xfer => hand (tgt t.rt d) t) -∗ run d k Q)
        -∗ run d (.op (.semWait barSem 2) fun _ => k) Q) : sProp 𝕄) := by
  have hi := hI.trans (inv_at P κ d .bar)
  have hj := hJ.trans (mayWait d (cellAt (d, .bar)).2 1 (by decide) (owed ops) (fun x _ => by have := (lev_lt x).1; omega))
  iintro ⟨⟨#Hlev, #HI⟩, Hc, HO, Hat⟩ Hk
  iapply (Rounds.wp_wait_rest_token 𝒱₀ ER (Rd P) (d : Thread nD τ) none (κ := κ (cellAt (d, .bar))) (k' := 2)
      (wpE_semWait_eq 𝒱₀ (d : Thread nD τ) none Set.univ) (Set.mem_univ _) 1 (O := owe d (owed ops)) (W := W) (R := 0) (m := 0) (T := ∅)
      ((Nat.zero_add _).trans (expect_bar P d).symm)) $$ [Hc HO Hat]
  · isplitr; · iapply hi; iexact HI
    isplitl [Hc]; · iexact Hc
    isplitl [HO]; · iexact HO
    isplitr; · iapply hj; iexact Hlev
    iexact Hat
  iintro ⟨HO, Hat, -, Hpay⟩
  ihave Hp := (Entails.of_eq (rest_bar P d)) $$ Hpay
  ihave Hp' := (got_bar d) $$ Hp
  iapply Hk
  isplitl [HO]; · unfold owing; iexists _; iexact HO
  isplitl [Hat] <;> iassumption

/-- A whole buffer's rectangle. -/
abbrev whole2 : Rect S1024x1024 := Rect.unit (s := S1024x1024) ![0, 0] S1024x1024.size inb_S1024x1024_S1024x1024_0_0

/-- The whole rectangle of an array places every index at itself. -/
theorem whole2_emb (x : S1024x1024.Idx) : whole2.emb x = x := by
  funext a
  refine Fin.ext ?_
  rw [ValueKit.rect_emb_unit_val]
  match a with
  | 0 => exact Nat.zero_add _
  | 1 => exact Nat.zero_add _

/-- Reading the whole rectangle of the input yields its contents. -/
theorem read_whole2 (X : Vec F S1024x1024 .f32) : (pM.access whole2).read (Elt F) X = X := by
  funext x
  exact congrArg X (whole2_emb x)

/-- Writing the whole rectangle of the result replaces its contents. -/
theorem write_whole2 (f X : Vec F S1024x1024 .f32) : (oM.access whole2).write (Elt F) f X Finset.univ = X := by
  funext x
  have h := congrFun (View.read_write_univ (v := oM.access whole2) f X) x
  rw [← h]
  exact (congrArg ((oM.access whole2).write (Elt F) f X Finset.univ) (whole2_emb x)).symm

/-- The body's first store copies the partial sum as it is. -/
theorem pay1_self (X : Vec F S1024x1024 .f32) : k1_pay1 X = X := by
  unfold k1_pay1
  exact shapeCast_self X _

/-- Copying the partial sum into the result buffer. -/
theorem copy_step (X : Vec F S1024x1024 .f32) :
    iprop((pLoc d ↦{fullShare} X) ∗ ∃ f, oLoc d ↦{fullShare} f)
      ⊢ (iprop((((pLoc d ↦{fullShare} X) ∗ (oLoc d ↦{fullShare} X)) -∗ run d k Q)
        -∗ run d (.op (.load pM whole2.toLoadRect (View.loadsAt_vmem h_S1024x1024)) fun v =>
          .op (.load oM whole2.toLoadRect (View.loadsAt_vmem h_S1024x1024)) fun _ =>
          .op (.store oM whole2 (k1_pay1 v) Finset.univ (View.stores_vmem_bits_univ h_S1024x1024 rfl) (.inl rfl)) fun _ => k) Q) : sProp 𝕄) := by
  iintro ⟨Hp, ⟨%f, Ho⟩⟩ Hk
  iapply (wp_load_rect 𝒱₀ (d : Thread nD τ) none Set.univ (m := pM) (r := whole2) (S := Finset.univ) (q := fullShare) (f := X) (Finset.subset_univ _)) $$ Hp
  iintro Hp
  rw [read_whole2, pay1_self]
  iapply (wp_load_rect 𝒱₀ (d : Thread nD τ) none Set.univ (m := oM) (r := whole2) (S := Finset.univ) (q := fullShare) (f := f) (Finset.subset_univ _)) $$ Ho
  iintro Ho
  iapply (wp_store 𝒱₀ (d : Thread nD τ) none Set.univ (m := oM) (r := whole2) (S := Finset.univ) (f := f) (Finset.subset_univ _)) $$ Ho
  iintro Ho
  ihave Ho' := (Entails.of_eq (congrArg (fun g : Vec F S1024x1024 .f32 => (oLoc d ↦{fullShare} g : sProp 𝕄)) (write_whole2 f X))) $$ Ho
  iapply Hk
  isplitl [Hp]; · iexact Hp
  iexact Ho'

/-- The body, from what its device brings. -/
theorem body_from (I J : sProp 𝕄) [BI.Persistent I] [BI.Persistent J] (hI : I ⊢ invs P κ) (hJ : J ⊢ levAts (SiteBlocks.L NL) SiteBlocks.lv)
    (W : Waits sig ℕ) :
    iprop((J ∗ I) ∗ brings d ∗ owes (d : Thread nD τ) (owe0 d) W ∗ (pLoc d ↦{fullShare} (P d)) ∗ (∃ f, oLoc d ↦{fullShare} f) ∗ (∃ f, rLoc d ↦{fullShare} f) ∗ ∃ f, lLoc d ↦{fullShare} f)
      ⊢ (run d (body (F := F)) fun _ => iprop(leaves P d ∗ Yk P d ∗ (pLoc d ↦{fullShare} (P d)) ∗ ∃ W, owes (d : Thread nD τ) 0 W) : sProp 𝕄) := by
  have hsR := slotsR_whole (F := F) d
  have hsL := slotsL_whole (F := F) d
  have hb : iprop(I ∗ held P d goal) ⊢ (|={Set.univ}=> leaves P d : sProp 𝕄) := by
    have h := back P κ d
    iintro ⟨H1, H2⟩
    iapply h
    isplitl [H1]
    · iapply @hI; iexact H1
    iexact H2
  have hc : iprop(J ∗ I) ⊢ (ctx P κ : sProp 𝕄) := by
    iintro ⟨H1, H2⟩
    isplitl [H1]
    · iapply @hJ; iexact H1
    iapply @hI; iexact H2
  simp only [body, wp_deviceId]
  unfold brings
  iintro ⟨⟨#Hlev, #HI⟩, ⟨Hat, Hnb, HtB, HcB, #HrR, Hsk, Hrk⟩, HO, Hp, Ho, HR, HL⟩
  ihave HR' := hsR $$ HR
  ihave HL' := hsL $$ HL
  ihave Hnb' := (Entails.of_eq (family_bool fun b => reached ER (cellAt (tgt b d, .bar)) 0)) $$ Hnb
  ihave HtB' := (Entails.of_eq (family_bool fun b => dutyTok ER (cellAt (tgt (!b) d, .bar)) 0 b)) $$ HtB
  icases Hnb' with ⟨Hn0, Hn1⟩
  icases HtB' with ⟨Ht0, Ht1⟩
  iapply (signal_step P κ d _ _ I @hI true (owe d (owed ops) + tallyAt (cellAt (tgt true d, .bar)) 1 1) (owe0 d) rfl W) $$ [HO Ht1 Hn0 HR']
  · isplitr; · iexact HI
    isplitl [HO]; · iexact HO
    isplitl [Ht1]; · iexact Ht1
    isplitl [Hn0]; · iexact Hn0
    isplitr; · iexact HrR
    iexact HR'
  iintro HO
  iapply (signal_step P κ d _ _ I @hI false (owe d (owed ops)) (owe d (owed ops) + tallyAt (cellAt (tgt true d, .bar)) 1 1) rfl W) $$ [HO Ht0 Hn1 HL']
  · isplitr; · iexact HI
    isplitl [HO]; · iexact HO
    isplitl [Ht0]; · iexact Ht0
    isplitl [Hn1]; · iexact Hn1
    isplitr; · iexact HrR
    iexact HL'
  iintro HO
  iapply (meet_step P κ d _ _ I J @hI @hJ W) $$ [HcB HO Hat]
  · isplitr
    · isplitr; · iexact Hlev
      iexact HI
    isplitl [HcB]; · iexact HcB
    isplitl [HO]; · iexact HO
    iexact Hat
  iintro ⟨HO, Hat, Hh⟩
  iapply (copy_step d _ _ (P d)) $$ [Hp Ho]
  · isplitl [Hp]; · iexact Hp
    iexact Ho
  iintro ⟨Hp, Ho⟩
  ihave Hf := (front P d) $$ [Hsk Hh Hrk Ho]
  · isplitl [Hsk]; · iexact Hsk
    isplitl [Hh]; · iexact Hh
    isplitl [Hrk]; · iexact Hrk
    iexact Ho
  iapply (ops_run P κ d _ walks) $$ [Hf HO]
  · isplitr
    · iapply hc
      isplitr; · iexact Hlev
      iexact HI
    isplitl [Hf] <;> iassumption
  iintro ⟨Hg, HO⟩
  unfold run
  rw [wp_ret]
  imod hb $$ [Hg] with Hl
  · isplitr; · iexact HI
    iexact Hg
  imodintro
  isplitl [Hl]; · iexact Hl
  isplitl [Hat]
  · unfold Yk
    isplitr
    · iexists κ; iapply @hI; iexact HI
    iexact Hat
  isplitl [Hp]; · iexact Hp
  unfold owing
  iexact HO

/-- The body, once its semaphores are open. -/
theorem body_run (W : Waits sig ℕ) :
    iprop(Xk P d ∗ owes (d : Thread nD τ) (owe0 d) W ∗ (pLoc d ↦{fullShare} (P d)) ∗ (∃ f, oLoc d ↦{fullShare} f) ∗ (∃ f, rLoc d ↦{fullShare} f) ∗ ∃ f, lLoc d ↦{fullShare} f)
      ⊢ (run d (body (F := F)) fun _ => iprop(leaves P d ∗ Yk P d ∗ (pLoc d ↦{fullShare} (P d)) ∗ ∃ W, owes (d : Thread nD τ) 0 W) : sProp 𝕄) := by
  have h := fun κ => body_from P κ d (invs P κ) (levAts (SiteBlocks.L NL) SiteBlocks.lv) (BI.Entails.refl _) (BI.Entails.refl _) W
  unfold Xk
  iintro ⟨⟨%κ, Hc, Hb⟩, Hr⟩
  iapply (h κ)
  isplitl [Hc]; · iexact Hc
  isplitl [Hb] <;> iassumption

end Cert.KernelIdeal.Ring

end
-- ==== Proof.KernelIdeal.Part.lean ====
/-
  The partial sum's body, run on one device at one point: loads and stores through whole staging buffers.
-/
module

public import proofs.«01_k».proof.Proof.KernelIdeal.Body
public import proofs.«01_k».proof.Proof.Gen.KernelIdeal.Points

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Cert.KernelIdeal.Gen

variable {F : FTy → Type} [FloatOps F]

local notation "𝕄" => MT nD τ sig ℕ (Elt F) ℕ UU ℕ

variable (d : Dev nD)

/-- A rectangle that starts at zero and has the shape's own sizes places every index at itself. -/
theorem emb_full {s : Shape} (off : Fin s.rank → ℕ) (inb : ∀ a, off a + s.size a ≤ s.size a) (x : s.Idx) :
    (Rect.unit (s := s) off s.size inb).emb x = x := by
  funext a
  refine Fin.ext ?_
  rw [ValueKit.rect_emb_unit_val]
  have h := inb a
  show off a + (x a : ℕ) = x a
  omega

section Access

variable {s : Shape} (M : Memref sig .tc .vmem s .f32) (off : Fin s.rank → ℕ) (inb : ∀ a, off a + s.size a ≤ s.size a)

/-- Reading a view through the full rectangle is reading the view. -/
theorem read_full (f : Buf (Elt F) (M.view.loc (d : Thread nD τ))) :
    (M.access (Rect.unit (s := s) off s.size inb)).read (Elt F) f = M.view.read (Elt F) f := by
  funext x
  exact congrArg (M.view.read (Elt F) f) (emb_full off inb x)

/-- What is read after a store through the full rectangle is what was stored. -/
theorem read_stored (f : Buf (Elt F) (M.view.loc (d : Thread nD τ))) (X : s.Idx → Elt F .f32) :
    M.view.read (Elt F) ((M.access (Rect.unit (s := s) off s.size inb)).write (Elt F) f X Finset.univ) = X := by
  rw [← read_full d M off inb]
  exact View.read_write_univ (v := M.access (Rect.unit (s := s) off s.size inb)) f X

/-- A load of a whole staging buffer reads its contents. -/
theorem load_owned (X : s.Idx → Elt F .f32) {hl : M.view.LoadsAt (Rect.unit (s := s) off s.size inb).toLoadRect}
    {k : (s.Idx → Elt F .f32) → Prog (TpuEff nD τ sig (Elt F) Λ₀ .tc) PUnit} {Q : PUnit → sProp (MT nD τ sig ℕ (Elt F) ℕ UU ℕ)} :
    owns (d : Thread nD τ) M fullShare X
      ⊢ (iprop((owns (d : Thread nD τ) M fullShare X -∗ run d (k X) Q)
        -∗ run d (.op (.load M (Rect.unit (s := s) off s.size inb).toLoadRect hl) k) Q) : sProp 𝕄) := by
  unfold owns
  iintro ⟨%f, %hf, H⟩ Hk
  iapply (wp_load_rect 𝒱₀ (d : Thread nD τ) none Set.univ (m := M) (r := Rect.unit (s := s) off s.size inb) (S := M.view.set) (q := fullShare) (f := f)
    (M.view.set_slice_subset _)) $$ H
  iintro H
  rw [read_full d M off inb f, hf]
  iapply Hk
  iexists f
  isplitr; · ipureintro; exact hf
  iexact H

/-- A store to a whole staging buffer leaves what was stored. -/
theorem store_owned (Y X : s.Idx → Elt F .f32) {hx : (M.access (Rect.unit (s := s) off s.size inb)).Stores Finset.univ}
    {hm : Finset.univ = Finset.univ ∨ ∀ a, (Rect.unit (s := s) off s.size inb).stride a = 1}
    {k : PUnit → Prog (TpuEff nD τ sig (Elt F) Λ₀ .tc) PUnit} {Q : PUnit → sProp (MT nD τ sig ℕ (Elt F) ℕ UU ℕ)} :
    owns (d : Thread nD τ) M fullShare Y
      ⊢ (iprop((owns (d : Thread nD τ) M fullShare X -∗ run d (k ⟨⟩) Q)
        -∗ run d (.op (.store M (Rect.unit (s := s) off s.size inb) X Finset.univ hx hm) k) Q) : sProp 𝕄) := by
  unfold owns
  iintro ⟨%f, %hf, H⟩ Hk
  iapply (wp_store 𝒱₀ (d : Thread nD τ) none Set.univ (m := M) (r := Rect.unit (s := s) off s.size inb) (S := M.view.set) (f := f)
    ((View.setOn_subset_set _ _).trans (M.view.set_slice_subset _))) $$ H
  iintro H
  iapply Hk
  iexists _
  isplitr; swap
  · iexact H
  ipureintro
  exact read_stored d M off inb f X

end Access

section Point

variable (i : grid0.Coords)
  (M1 : Memref sig .tc .vmem S1024x1024 .f32) (h1 : M1.IsWhole) (M2 : Memref sig .tc .vmem S1024x256 .f32) (h2 : M2.IsWhole)
  (M3 : Memref sig .tc .vmem S1024x256 .f32) (h3 : M3.IsWhole) (M4 : Memref sig .tc .vmem S256x1024 .f32) (h4 : M4.IsWhole)
  (M5 : Memref sig .tc .vmem S1024x1024 .f32) (h5 : M5.IsWhole)
  (x : Vec F S1024x1024 .f32) (g u : Vec F S1024x256 .f32) (w : Vec F S256x1024 .f32) (a : Vec F S1024x1024 .f32)

/-- The five staging buffers at given contents. -/
abbrev stages (a : Vec F S1024x1024 .f32) : sProp (MT nD τ sig ℕ (Elt F) ℕ UU ℕ) :=
  iprop(owns (d : Thread nD τ) M1 fullShare x ∗ owns (d : Thread nD τ) M2 fullShare g ∗ owns (d : Thread nD τ) M3 fullShare u
    ∗ owns (d : Thread nD τ) M4 fullShare w ∗ owns (d : Thread nD τ) M5 fullShare a)

/-- At the first point the body stores the block product. -/
theorem point_first (hc1 : k0_cond1 i = 1#1) (hc2 : ¬ k0_cond2 i = 1#1) (Q : PUnit → sProp (MT nD τ sig ℕ (Elt F) ℕ UU ℕ)) :
    iprop(stages d M1 M2 M3 M4 M5 x g u w a ∗ (stages d M1 M2 M3 M4 M5 x g u w (k0_pay1 x g x u w) -∗ Q ⟨⟩))
      ⊢ (run d (cc0_body i M1 h1 M2 h2 M3 h3 M4 h4 M5 h5) Q : sProp 𝕄) := by
  rw [cc0_body_eq_skeleton]
  unfold cc0_body_skel
  simp only [dif_pos hc1, dif_neg hc2, Prog.lift, Prog.bind_op, Prog.bind_ret, Prog.pure_eq_ret]
  iintro ⟨⟨H1, H2, H3, H4, H5⟩, Hk⟩
  iapply (load_owned d M1 _ _ x) $$ H1; iintro H1
  iapply (load_owned d M2 _ _ g) $$ H2; iintro H2
  iapply (load_owned d M1 _ _ x) $$ H1; iintro H1
  iapply (load_owned d M3 _ _ u) $$ H3; iintro H3
  iapply (load_owned d M4 _ _ w) $$ H4; iintro H4
  iapply (load_owned d M5 _ _ a) $$ H5; iintro H5
  iapply (store_owned d M5 _ _ a (k0_pay1 x g x u w)) $$ H5; iintro H5
  unfold run
  rw [wp_ret]; imodintro
  iapply Hk
  isplitl [H1]; · iexact H1
  isplitl [H2]; · iexact H2
  isplitl [H3]; · iexact H3
  isplitl [H4]; · iexact H4
  iexact H5

/-- At a later point the body adds the block product to what the result buffer holds. -/
theorem point_later (hc1 : ¬ k0_cond1 i = 1#1) (hc2 : k0_cond2 i = 1#1) (Q : PUnit → sProp (MT nD τ sig ℕ (Elt F) ℕ UU ℕ)) :
    iprop(stages d M1 M2 M3 M4 M5 x g u w a ∗ (stages d M1 M2 M3 M4 M5 x g u w (k0_pay2 x g x u w a) -∗ Q ⟨⟩))
      ⊢ (run d (cc0_body i M1 h1 M2 h2 M3 h3 M4 h4 M5 h5) Q : sProp 𝕄) := by
  rw [cc0_body_eq_skeleton]
  unfold cc0_body_skel
  simp only [dif_neg hc1, dif_pos hc2, Prog.lift, Prog.bind_op, Prog.bind_ret, Prog.pure_eq_ret]
  iintro ⟨⟨H1, H2, H3, H4, H5⟩, Hk⟩
  iapply (load_owned d M1 _ _ x) $$ H1; iintro H1
  iapply (load_owned d M2 _ _ g) $$ H2; iintro H2
  iapply (load_owned d M1 _ _ x) $$ H1; iintro H1
  iapply (load_owned d M3 _ _ u) $$ H3; iintro H3
  iapply (load_owned d M4 _ _ w) $$ H4; iintro H4
  iapply (load_owned d M5 _ _ a) $$ H5; iintro H5
  iapply (load_owned d M5 _ _ a) $$ H5; iintro H5
  iapply (store_owned d M5 _ _ a (k0_pay2 x g x u w a)) $$ H5; iintro H5
  unfold run
  rw [wp_ret]; imodintro
  iapply Hk
  isplitl [H1]; · iexact H1
  isplitl [H2]; · iexact H2
  isplitl [H3]; · iexact H3
  isplitl [H4]; · iexact H4
  iexact H5

end Point

end Cert.KernelIdeal.Ring

end
-- ==== Proof.KernelIdeal.Dats.lean ====
/-
  What the two kernels leave, point by point: each device's partial sum and then the sum over the devices.
-/
module

public import proofs.«01_k».proof.Proof.KernelIdeal.Part
public import proofs.«01_k».proof.Proof.Gen.KernelIdeal.Regions

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (Pay tallyL Fam)
open Cert.KernelIdeal.Gen

variable {F : FTy → Type} [FloatOps F]

local notation "𝕄" => MT nD τ sig ℕ (Elt F) ℕ UU ℕ

variable (m : (ℓ : Loc nD τ sig) → Buf (Elt F) ℓ) (c : Dev nD)

/-! ## The partial sum -/

/-- Window `w`'s block at point `t`, as the arrays were at launch. -/
def blkAt (w : Fin cfg0.W) (t : Fin cfg0.N) : ((cfg0.win w).xblock (cfg0.grid.coords t)).Idx → Elt F (cfg0.win w).elt :=
  ((cfg0.win w).blk t).view.read (Elt F) (V0 m c (Proc.devRef .tc (Pipeline.arrRef spec0 w)))

/-- The input at a grid point. -/
abbrev xAt (t : Fin cfg0.N) : Vec F S1024x1024 .f32 := blkAt m c 0 t
/-- The point's block of the gate projection. -/
abbrev gAt (t : Fin cfg0.N) : Vec F S1024x256 .f32 := blkAt m c 1 t
/-- The point's block of the up projection. -/
abbrev uAt (t : Fin cfg0.N) : Vec F S1024x256 .f32 := blkAt m c 2 t
/-- The point's block of the down projection. -/
abbrev wAt (t : Fin cfg0.N) : Vec F S256x1024 .f32 := blkAt m c 3 t

/-- The accumulator after point `n`: the first point stores its block product, each later one adds its own. -/
def upTo : (n : ℕ) → n < grid0.N → Vec F S1024x1024 .f32
  | 0, h => k0_pay1 (xAt m c ⟨0, h⟩) (gAt m c ⟨0, h⟩) (xAt m c ⟨0, h⟩) (uAt m c ⟨0, h⟩) (wAt m c ⟨0, h⟩)
  | n + 1, h => k0_pay2 (xAt m c ⟨n + 1, h⟩) (gAt m c ⟨n + 1, h⟩) (xAt m c ⟨n + 1, h⟩) (uAt m c ⟨n + 1, h⟩) (wAt m c ⟨n + 1, h⟩)
      (upTo n (Nat.lt_of_succ_lt h))

/-- The grid has a point number seven. -/
theorem last_lt : 7 < grid0.N := by rw [N_0]; decide

/-- A device's partial sum: the accumulator after the last point. -/
def parts (c : Dev nD) : Vec F S1024x1024 .f32 := upTo m c 7 last_lt

/-! ## The buffers' contents between the kernels -/

/-- After the first kernel: the partial sum is in its result. -/
abbrev after0 : Valuation τ sig (Elt F) := Function.update (V0 m c) main_v1 (parts m c)
/-- After the second: the sum over the devices is in its result. -/
abbrev after1 : Valuation τ sig (Elt F) := Function.update (after0 m c) main_v2 (total (parts m))

/-! ## The proof data -/

/-- The first kernel's: the inputs stay, the result's buffer holds the accumulator, and what a device owes for the exchange
    stays owed throughout. -/
def dat0 : Dat τ (Elt F) ℕ ℕ UU ℕ cfg0 c where
  A w := V0 m c (Proc.devRef .tc (Pipeline.arrRef spec0 w))
  after w t := match w with
    | ⟨0, _⟩ => blkAt m c 0 t
    | ⟨1, _⟩ => blkAt m c 1 t
    | ⟨2, _⟩ => blkAt m c 2 t
    | ⟨3, _⟩ => blkAt m c 3 t
    | ⟨4, _⟩ => upTo m c t.val t.isLt
  Φ _ := iprop(Pipeline.scopedRest spec0 c ∗ ∃ r, prngReg c r)
  q _ := fullShare
  owed _ := owe0 c

/-- The second kernel's one point: from what the device brings to the exchange to what it leaves. -/
def dat1 : Dat τ (Elt F) ℕ ℕ UU ℕ cfg1 c where
  A w := after0 m c (Proc.devRef .tc (Pipeline.arrRef spec1 w))
  after w _ := match w with
    | ⟨0, _⟩ => parts m c
    | ⟨1, _⟩ => total (parts m)
  Φ t := if t.val = 0 then iprop(Pipeline.scopedRest spec1 c ∗ (∃ r, prngReg c r) ∗ Xk (parts m) c)
    else iprop(Pipeline.scopedRest spec1 c ∗ (∃ r, prngReg c r) ∗ Pipeline.ownSems0 osem c ∗ Yk (parts m) c)
  q _ := fullShare
  owed t := if t.val = 0 then owe0 c else 0

/-- Both kernels'. -/
def pdats : (p : Fin 2) → (c : Dev nD) → Dat τ (Elt F) ℕ ℕ UU ℕ (Pipeline.pin (pcfgs (F := F)) adm p) c
  | ⟨0, _⟩ => dat0 m
  | ⟨1, _⟩ => dat1 m

end Cert.KernelIdeal.Ring

end
-- ==== Proof.KernelIdeal.Region0.lean ====
/-
  The partial sum's body at every point, from the staging buffers as the pipeline hands them to it.
-/
module

public import proofs.«01_k».proof.Proof.KernelIdeal.Dats

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (Pay tallyL Fam)
open Cert.KernelIdeal.Gen

variable {F : FTy → Type} [FloatOps F]

local notation "𝕄" => MT nD τ sig ℕ (Elt F) ℕ UU ℕ

variable (m : (ℓ : Loc nD τ sig) → Buf (Elt F) ℓ) (c : Dev nD)

/-! ## What the body finds -/

/-- Before a point the first window's buffer holds the input. -/
theorem found_x (t : Fin cfg0.N) (d) : (dat0 m c).before 0 t d = xAt m c t :=
  (Dat.before_in_eq_fetched (dat0 m c) 0 rfl (fun _ => rfl) (fun _ _ _ => rfl) (fun _ => rfl) t d).trans rfl

/-- The second's holds the point's block of the gate projection. -/
theorem found_g (t : Fin cfg0.N) (d) : (dat0 m c).before 1 t d = gAt m c t := by
  unfold Dat.before; rw [if_pos (fetch0_1 t)]; rfl
/-- The third's holds the point's block of the up projection. -/
theorem found_u (t : Fin cfg0.N) (d) : (dat0 m c).before 2 t d = uAt m c t := by
  unfold Dat.before; rw [if_pos (fetch0_2 t)]; rfl
/-- The fourth's holds the point's block of the down projection. -/
theorem found_w (t : Fin cfg0.N) (d) : (dat0 m c).before 3 t d = wAt m c t := by
  unfold Dat.before; rw [if_pos (fetch0_3 t)]; rfl

/-- The result's buffer at the first point is anything. -/
theorem found_first (t : Fin cfg0.N) (ht : t.val = 0) (d) : (dat0 m c).before 4 t d = d :=
  Dat.before_out_reset (dat0 m c) 4 rfl t (.inl ht) d

/-- One of the body's two branches is taken at every point. -/
theorem live4 : ∀ i, cfg0.idle 4 i = false := by decide +kernel

/-- The result's buffer at a later point is the accumulator after the point before. -/
theorem found_later (n : ℕ) (hn : n + 1 < grid0.N) (d) :
    (dat0 m c).before 4 ⟨n + 1, hn⟩ d = upTo m c n (Nat.lt_of_succ_lt hn) := by
  refine (Dat.before_out_kept (dat0 m c) 4 rfl ⟨n + 1, hn⟩ (Nat.succ_ne_zero n) ?_ live4 (fun _ _ => rfl) d).trans rfl
  have h8 : n + 1 < 8 := by rw [← N_0]; exact hn
  rw [Bool.eq_false_iff]
  intro h
  have h7 := (flush0_4 _).mp h
  have : n + 1 - 1 = n := rfl
  simp only [this] at h7
  omega

/-- Which branch is taken where. -/
theorem first_conds (t : Fin grid0.N) : (t.val = 0 → k0_cond1 (grid0.coords t) = 1#1 ∧ ¬ k0_cond2 (grid0.coords t) = 1#1)
    ∧ (t.val ≠ 0 → ¬ k0_cond1 (grid0.coords t) = 1#1 ∧ k0_cond2 (grid0.coords t) = 1#1) := by
  revert t; decide +kernel

/-! ## The obligation -/

/-- The body at one point, from the five staging buffers. -/
theorem point_run (t : Fin cfg0.N) (Q : PUnit → sProp (MT nD τ sig ℕ (Elt F) ℕ UU ℕ)) :
    iprop((∃ d, stages c (st0_0 t) (st0_1 t) (st0_2 t) (st0_3 t) (st0_4 t) (xAt m c t) (gAt m c t) (uAt m c t) (wAt m c t) ((dat0 m c).before 4 t d))
        ∗ (stages c (st0_0 t) (st0_1 t) (st0_2 t) (st0_3 t) (st0_4 t) (xAt m c t) (gAt m c t) (uAt m c t) (wAt m c t) (upTo m c t.val t.isLt) -∗ Q ⟨⟩))
      ⊢ (run c (bodyAt0 (F := F) t) Q : sProp 𝕄) := by
  obtain ⟨n, hn⟩ := t
  cases n with
  | zero =>
    have hc := (first_conds ⟨0, hn⟩).1 rfl
    iintro ⟨⟨%d, H⟩, Hk⟩
    iapply (point_first c (grid0.coords ⟨0, hn⟩) _ _ _ _ _ _ _ _ _ _ _ _ _ _ _ hc.1 hc.2 Q)
    isplitl [H]; · iexact H
    iexact Hk
  | succ n =>
    have hc := (first_conds ⟨n + 1, hn⟩).2 (Nat.succ_ne_zero n)
    simp only [found_later m c n hn]
    iintro ⟨⟨%d, H⟩, Hk⟩
    iapply (point_later c (grid0.coords ⟨n + 1, hn⟩) _ _ _ _ _ _ _ _ _ _ _ _ _ _ _ hc.1 hc.2 Q)
    isplitl [H]; · iexact H
    iexact Hk

/-- The first kernel's obligation at every point. -/
theorem body0 : BodyObligation (dat0 m c) (defs₀ (F := F)) 𝒱₀ 0 Set.univ := fun t => by
  rw [bigSep_W0, bigSep_W0]
  have h4 : idle0 4 (grid0.coords t) = false := live4 _
  simp only [found_x, found_g, found_u, found_w, h4]
  rw [show (dat0 m c).Φ t.succ = (dat0 m c).Φ t.castSucc from rfl]
  iintro ⟨HΦ, HO, ⟨%d0, H0⟩, ⟨%d1, H1⟩, ⟨%d2, H2⟩, ⟨%d3, H3⟩, ⟨%d4, H4⟩⟩
  iapply (point_run m c t _)
  isplitl [H0 H1 H2 H3 H4]
  · iexists d4
    isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

end Cert.KernelIdeal.Ring

end
-- ==== Proof.KernelIdeal.Whole.lean ====
/-
  The printed body of the exchange is the list of steps, by definitional unfolding.
-/
module
public import proofs.«01_k».proof.Proof.KernelIdeal.Steps
@[expose] public section
noncomputable section
namespace Cert.KernelIdeal.Ring
open Idealize.ShloMosaic Idealize.ShloMosaic.TcCoe
open Idealize.SL.Sem
open Cert.KernelIdeal.Gen
variable {F : FTy → Type} [FloatOps F]

/-- The printed body is the line. -/
theorem cc1_eq : cc1_body (F := F) pM (Memref.isWhole_whole _) oM (Memref.isWhole_whole _) rM (Memref.isWhole_whole _) lM (Memref.isWhole_whole _)
      cc1_scratch2 cc1_scratch3 cc1_scratch4 cc1_scratch5 cc1_scratch6 cc1_scratch7 cc1_scratch8 cc1_scratch9 = body (F := F) := by
  rw [cc1_body_eq_skeleton]
  chain_rfl

end Cert.KernelIdeal.Ring

end
-- ==== Proof.KernelIdeal.Region1.lean ====
/-
  The exchange's body at its one point, from the staging buffers as the pipeline hands them to it.
-/
module

public import proofs.«01_k».proof.Proof.KernelIdeal.Dats
public import proofs.«01_k».proof.Proof.KernelIdeal.Whole

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (Pay tallyL Fam)
open Cert.KernelIdeal.Gen

variable {F : FTy → Type} [FloatOps F]

local notation "𝕄" => MT nD τ sig ℕ (Elt F) ℕ UU ℕ

variable (m : (ℓ : Loc nD τ sig) → Buf (Elt F) ℓ) (c : Dev nD)

/-! ## What is owed before and after the point -/

/-- At the start the whole exchange is owed; -/
theorem owed1_zero : (pdats m 1 c).owed 0 = owe0 c := by
  show (if ((0 : Fin (cfg1.N + 1)).val = 0) then owe0 c else 0) = owe0 c
  exact if_pos rfl
/-- so it is before the point; -/
theorem owed1_first : (dat1 m c).owed t1_0.castSucc = owe0 c := by
  show (if (t1_0.castSucc : Fin (cfg1.N + 1)).val = 0 then owe0 c else 0) = owe0 c
  exact if_pos rfl
/-- at the end nothing is. -/
theorem owed1_last : (pdats m 1 c).owed (Fin.last _) = 0 := by
  show (if (Fin.last cfg1.N).val = 0 then owe0 c else 0) = 0
  rw [Fin.val_last, if_neg (by rw [show cfg1.N = 1 from N_1]; decide)]

/-- What a core owes, as the pipeline keeps it. -/
theorem owesAt_of {cfg : Pipeline.Cfg sig Λ₀} {c : Dev nD} (dat : Dat τ (Elt F) ℕ ℕ UU ℕ cfg c) (t : Fin (cfg.N + 1))
    (O : CellTallies nD τ sig ℕ) (h0 : dat.owed t = O) (W : Waits sig ℕ) (hr : dat.recorded t = Set.univ) :
    (owes (c : Thread nD τ) O W : sProp 𝕄) ⊢ (dat.owesAt 0 t : sProp 𝕄) := by
  unfold Dat.owesAt Pipeline.owesWithin Dat.bound
  rw [h0, hr]
  iintro HO
  iexists W
  isplitr; · ipureintro; exact fun _ _ => Or.inl trivial
  iexact HO
/-- And back: as the pipeline keeps it, what a core owes. -/
theorem of_owesAt {cfg : Pipeline.Cfg sig Λ₀} {c : Dev nD} (dat : Dat τ (Elt F) ℕ ℕ UU ℕ cfg c) (t : Fin (cfg.N + 1))
    (O : CellTallies nD τ sig ℕ) (h0 : dat.owed t = O) :
    (dat.owesAt 0 t : sProp 𝕄) ⊢ iprop(∃ W, owes (c : Thread nD τ) O W) := by
  unfold Dat.owesAt Pipeline.owesWithin
  rw [h0]
  iintro ⟨%W, -, HO⟩
  iexists W
  iexact HO

/-! ## The obligation -/

/-- The buffers of the first kernel, which the exchange leaves alone. -/
def others : sProp (MT nD τ sig ℕ (Elt F) ℕ UU ℕ) :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f))

/-- What no window of the exchange stages: the first kernel's buffers and the two receive buffers. -/
theorem rest_split : (Pipeline.scopedRest spec1 c : sProp 𝕄)
    ⊢ iprop(others c ∗ (∃ f : Buf (Elt F) (rLoc c), rLoc c ↦{fullShare} f) ∗ ∃ f : Buf (Elt F) (lLoc c), lLoc c ↦{fullShare} f) := by
  rw [scopedRest1_eq]
  unfold others
  iintro ⟨H1, H2, H3, H4, H5, H6, H7, H8, H9, H10⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  iexact H10

/-- The same buffers, put together again. -/
theorem rest_join : iprop(others c ∗ (∃ f : Buf (Elt F) (rLoc c), rLoc c ↦{fullShare} f) ∗ ∃ f : Buf (Elt F) (lLoc c), lLoc c ↦{fullShare} f)
    ⊢ (Pipeline.scopedRest spec1 c : sProp 𝕄) := by
  rw [scopedRest1_eq]
  unfold others
  iintro ⟨⟨H1, H2, H3, H4, H5, H6, H7, H8⟩, H9, H10⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's call is the body. -/
theorem call1 : bodyAt1 (F := F) t1_0 = body (F := F) := cc1_eq

/-- The exchange's first window holds the partial sum. -/
theorem found_part (d) : (dat1 m c).before 0 t1_0 d = parts m c := by
  unfold Dat.before
  rw [if_pos (fetch1_0 t1_0)]
  have h : (after0 m c main_v1 : Vec F S1024x1024 .f32) = parts m c := Function.update_self _ _ _
  funext i
  show (after0 m c main_v1 : Vec F S1024x1024 .f32) (((cfg1.win 0).blk t1_0).view.emb i) = _
  rw [h]
  refine congrArg (parts m c) (funext fun a => Fin.ext ?_)
  blk_simp
  exact (congrArg (· + (i a).val) (Nat.zero_mul _)).trans (Nat.zero_add _)

attribute [local irreducible] Xk Yk

/-- Running the call is running the body, with whatever is kept beside it. -/
theorem called {Q : PUnit → sProp (MT nD τ sig ℕ (Elt F) ℕ UU ℕ)} (Q' : PUnit → sProp (MT nD τ sig ℕ (Elt F) ℕ UU ℕ)) :
    iprop(run c (body (F := F)) Q ∗ (∀ a, Q a -∗ Q' a)) ⊢ (run c (bodyAt1 (F := F) t1_0) Q' : sProp 𝕄) := by
  rw [call1]
  exact wp_wand_r _ _ _

/-- The exchange's obligation at its one point. -/
theorem body1 : BodyObligation (dat1 m c) (defs₀ (F := F)) 𝒱₀ 0 Set.univ := fun t => by
  obtain rfl := fin_N1 t
  rw [bigSep_W1, bigSep_W1]
  simp only [owns_whole_eq]
  rw [show (dat1 m c).Φ t1_0.castSucc = iprop(Pipeline.scopedRest spec1 c ∗ (∃ r, prngReg c r) ∗ Xk (parts m) c) from rfl,
    show (dat1 m c).Φ t1_0.succ = iprop(Pipeline.scopedRest spec1 c ∗ (∃ r, prngReg c r) ∗ Pipeline.ownSems0 osem c ∗ Yk (parts m) c) from rfl]
  iintro ⟨⟨Hs, Hr, HX⟩, HO, ⟨%d0, %f0, %hf0, H0⟩, ⟨%d1, %f1, -, H1⟩⟩
  rw [found_part] at hf0
  subst hf0
  ihave HO' := (of_owesAt (dat1 m c) _ (owe0 c) (owed1_first m c)) $$ HO
  icases HO' with ⟨%W, HO⟩
  ihave Hs' := (rest_split c) $$ Hs
  icases Hs' with ⟨Hs, Hrl⟩
  iapply (called c _)
  isplitl [HX HO H0 H1 Hrl]
  · iapply (body_run (parts m) c W)
    isplitl [HX]; · iexact HX
    isplitl [HO]; · iexact HO
    isplitl [H0]; · iexact H0
    isplitl [H1]; · iexists f1; iexact H1
    iexact Hrl
  iintro %u ⟨Hl, HY, Hp, ⟨%W', HO⟩⟩
  unfold leaves
  icases Hl with ⟨Hsem, Ho, Hrl⟩
  isplitl [Hs Hrl Hr Hsem HY]
  · isplitl [Hs Hrl]
    · iapply (rest_join c)
      isplitl [Hs] <;> iassumption
    isplitl [Hr]; · iexact Hr
    isplitl [Hsem]; · unfold Pipeline.ownSems0; iexact Hsem
    iexact HY
  isplitl [HO]
  · iapply (owesAt_of (dat1 m c) t1_0.succ 0 (owed1_last m c) W' rfl); iexact HO
  isplitl [Hp]
  · iexists _; isplitr; swap; (· iexact Hp); ipureintro; rfl
  iexists _; isplitr; swap; (· iexact Ho); ipureintro; rfl

end Cert.KernelIdeal.Ring

end
-- ==== Proof.KernelIdeal.Segments.lean ====
/-
  The two kernels as segments of the program.
-/
module

public import Idealize.ShloMosaic.Lib.Pipeline.RegionTalk
public import proofs.«01_k».proof.Proof.KernelIdeal.Region0
public import proofs.«01_k».proof.Proof.KernelIdeal.Region1

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (Pay tallyL Fam)
open Cert.KernelIdeal.Gen

variable {F : FTy → Type} [FloatOps F]

local notation "𝕄" => MT nD τ sig ℕ (Elt F) ℕ UU ℕ

variable (m : (ℓ : Loc nD τ sig) → Buf (Elt F) ℓ)

/-! ## What the arrays hold before and after -/

/-- The first kernel finds the arrays as they were at launch. -/
theorem entry0 (c : Dev nD) (w : Fin (Pipeline.pin (pcfgs (F := F)) adm 0).W) :
    (pdats m 0 c).arrAt w 0 = V0 m c (Proc.devRef .tc (Pipeline.arrRef (Pipeline.pin (pcfgs (F := F)) adm 0).spec w)) := rfl
/-- The second finds them as the first left them. -/
theorem entry1 (c : Dev nD) (w : Fin (Pipeline.pin (pcfgs (F := F)) adm 1).W) :
    (pdats m 1 c).arrAt w 0 = after0 m c (Proc.devRef .tc (Pipeline.arrRef (Pipeline.pin (pcfgs (F := F)) adm 1).spec w)) := rfl

/-- The first kernel leaves the partial sum in its result. -/
theorem result0 (c : Dev nD) : (dat0 m c).arrAt 4 cfg0.N = parts m c := by
  refine (dat0 m c).arrAt_eq_of_after_last 4 t0_7 (by decide +kernel) _ fun j => ?_
  exact congrFun (f := upTo m c 7 _) rfl j

/-- The second leaves the sum over the devices. -/
theorem result1 (c : Dev nD) : (dat1 m c).arrAt 1 cfg1.N = total (parts m) := by
  refine (dat1 m c).arrAt_eq_of_after_last 1 t1_0 (by decide +kernel) _ fun j => ?_
  rfl

/-- The first kernel changes only its result. -/
theorem kept0 (c : Dev nD) (r : Ref sig .tc) (h : r ≠ main_v1) : after0 m c (Proc.devRef .tc r) = V0 m c (Proc.devRef .tc r) :=
  Function.update_of_ne (StableHlo.devRef_ne_of_ne h) _ _
/-- The second changes only its result. -/
theorem kept1 (c : Dev nD) (r : Ref sig .tc) (h : r ≠ main_v2) : after1 m c (Proc.devRef .tc r) = after0 m c (Proc.devRef .tc r) :=
  Function.update_of_ne (StableHlo.devRef_ne_of_ne h) _ _
/-- After the first kernel its result holds the partial sum. -/
theorem after0_v1 (c : Dev nD) : after0 m c (Proc.devRef .tc main_v1) = parts m c := Function.update_self _ _ _
/-- After the second its result holds the sum over the devices. -/
theorem after1_v2 (c : Dev nD) : after1 m c (Proc.devRef .tc main_v2) = total (parts m) := Function.update_self _ _ _

/-- The first kernel's arrays, at its end. -/
theorem exit0 (c : Dev nD) (w : Fin 5) :
    (dat0 m c).arrAt w cfg0.N = after0 m c (Proc.devRef .tc (Pipeline.arrRef spec0 w)) :=
  match w with
  | ⟨0, _⟩ => ((dat0 m c).arrAt_in 0 rfl _).trans (kept0 m c main_arg0 (by decide)).symm
  | ⟨1, _⟩ => ((dat0 m c).arrAt_in 1 rfl _).trans (kept0 m c main_arg1 (by decide)).symm
  | ⟨2, _⟩ => ((dat0 m c).arrAt_in 2 rfl _).trans (kept0 m c main_arg2 (by decide)).symm
  | ⟨3, _⟩ => ((dat0 m c).arrAt_in 3 rfl _).trans (kept0 m c main_arg3 (by decide)).symm
  | ⟨4, _⟩ => (result0 m c).trans (after0_v1 m c).symm

/-- The second kernel's arrays, at its end. -/
theorem exit1 (c : Dev nD) (w : Fin 2) :
    (dat1 m c).arrAt w cfg1.N = after1 m c (Proc.devRef .tc (Pipeline.arrRef spec1 w)) :=
  match w with
  | ⟨0, _⟩ => ((dat1 m c).arrAt_in 0 rfl _).trans (kept1 m c main_v1 (by decide)).symm
  | ⟨1, _⟩ => (result1 m c).trans (after1_v2 m c).symm

/-! ## The buffers no window of a kernel addresses -/

/-- The arrays of the first kernel's windows. -/
abbrev arrs0 : Finset (DevRef τ sig) := Pipeline.arrRefs (pcfgs (F := F) 0).spec
/-- The arrays of the second kernel's windows. -/
abbrev arrs1 : Finset (DevRef τ sig) := Pipeline.arrRefs (pcfgs (F := F) 1).spec
/-- The other arrays, for the first kernel. -/
abbrev rest0 : Finset (DevRef τ sig) := Pipeline.ucRefs τ sig \ arrs0 (F := F)
/-- The other arrays, for the second kernel. -/
abbrev rest1 : Finset (DevRef τ sig) := Pipeline.ucRefs τ sig \ arrs1 (F := F)

/-- The first kernel's arrays outlive it. -/
theorem arrs0_sub : arrs0 (F := F) ⊆ Pipeline.ucRefs τ sig := Pipeline.arrRefs_sub_ucRefs spec0 (by decide)
/-- The second kernel's arrays outlive it. -/
theorem arrs1_sub : arrs1 (F := F) ⊆ Pipeline.ucRefs τ sig := Pipeline.arrRefs_sub_ucRefs spec1 (by decide)

/-- The first kernel's result is one of its arrays. -/
theorem mem_arrs0 : (Proc.devRef .tc main_v1 : DevRef τ sig) ∈ arrs0 (F := F) :=
  Finset.mem_map_of_mem _ (Finset.mem_image.mpr ⟨4, Finset.mem_univ _, rfl⟩)
/-- The second kernel's result is one of its arrays. -/
theorem mem_arrs1 : (Proc.devRef .tc main_v2 : DevRef τ sig) ∈ arrs1 (F := F) :=
  Finset.mem_map_of_mem _ (Finset.mem_image.mpr ⟨1, Finset.mem_univ _, rfl⟩)

/-- The first kernel leaves the other arrays alone. -/
theorem restKept0 (c : Dev nD) : ∀ b ∈ rest0 (F := F) \ ∅, after0 m c b = V0 m c b := fun b hb => by
  refine Function.update_of_ne (fun h => ?_) _ _
  subst h
  exact (Finset.mem_sdiff.mp (Finset.mem_sdiff.mp hb).1).2 mem_arrs0
/-- The second kernel leaves the other arrays alone. -/
theorem restKept1 (c : Dev nD) : ∀ b ∈ rest1 (F := F) \ ∅, after1 m c b = after0 m c b := fun b hb => by
  refine Function.update_of_ne (fun h => ?_) _ _
  subst h
  exact (Finset.mem_sdiff.mp (Finset.mem_sdiff.mp hb).1).2 mem_arrs1

/-! ## The segments -/

/-- The layout that the first kernel's launch needs. -/
theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
/-- The layout that the second kernel's launch needs. -/
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- Holding an empty set of arrays is holding nothing. -/
theorem held_none (c : Dev nD) (W : Valuation τ sig (Elt F)) : (StableHlo.held (c.tc : Thread nD τ) ∅ W : sProp 𝕄) = BI.emp := by
  unfold StableHlo.held
  exact BI.bigSep_empty

/-- The pipeline's own waits lie below everything owed. -/
theorem cut_of (g : GSem nD τ sig) (i : ℕ) (c : Dev nD) (h : 0 < owe0 c g i) : i ∈ SiteBlocks.L NL g ∧ 0 < SiteBlocks.lv g i := by
  have h' := owe0_above c g i h
  exact ⟨h'.1, h'.2⟩

/-- The first kernel's own waits lie below all that is owed. -/
theorem cut0 : Pipeline.LevelCutOwed (pcfgs (F := F)) adm (pdats m) 0 (SiteBlocks.L NL) SiteBlocks.lv 0 (fun _ => 0) :=
  ⟨fun _ _ _ => SiteBlocks.mem_L' rfl (by decide), fun _ _ _ => le_refl _, fun c _ g i h => cut_of g i c h⟩

/-- The second kernel's own waits lie below all that is owed. -/
theorem cut1 : Pipeline.LevelCutOwed (pcfgs (F := F)) adm (pdats m) 0 (SiteBlocks.L NL) SiteBlocks.lv 1 (fun _ => 0) :=
  ⟨fun _ _ _ => SiteBlocks.mem_L' rfl (by decide), fun _ _ _ => le_refl _, fun c t g i h => by
    have e : (pdats (F := F) m 1 c).owed t = if t.val = 0 then owe0 c else 0 := rfl
    rw [e] at h
    split at h
    · exact cut_of g i c h
    · exact absurd h (Nat.lt_irrefl 0)⟩

/-- What the first kernel starts from. -/
theorem in0 (c : Dev nD) : iprop(Pipeline.scopedRest (Pipeline.pin (pcfgs (F := F)) adm 0).spec c ∗ (∃ r, prngReg c r)
      ∗ StableHlo.held (c.tc : Thread nD τ) ∅ (V0 m c) ∗ emp) ⊢ ((pdats m 0 c).Φ 0 : sProp 𝕄) := by
  rw [show (pdats m 0 c).Φ 0 = iprop(Pipeline.scopedRest spec0 c ∗ ∃ r, prngReg c r) from rfl]
  iintro ⟨H1, H2, -, -⟩
  isplitl [H1]; · iexact H1
  iexact H2

/-- What the first kernel leaves. -/
theorem out0 (c : Dev nD) : (pdats m 0 c).Φ (Fin.last (Pipeline.pin (pcfgs (F := F)) adm 0).N)
    ⊢ (iprop(Pipeline.scopedRest (Pipeline.pin (pcfgs (F := F)) adm 0).spec c ∗ (∃ r, prngReg c r)
      ∗ StableHlo.held (c.tc : Thread nD τ) ∅ (after0 m c) ∗ Pipeline.ownSems0 (fun k : PEmpty => k.elim) c ∗ emp) : sProp 𝕄) := by
  rw [show (pdats m 0 c).Φ (Fin.last _) = iprop(Pipeline.scopedRest spec0 c ∗ ∃ r, prngReg c r) from rfl, held_none, Pipeline.ownSems0_none]
  iintro ⟨H1, H2⟩
  isplitl [H1]; · iexact H1
  isplitl [H2]; · iexact H2
  isplitr; · iempintro
  isplitr <;> iempintro

attribute [local irreducible] Tk Xk Yk

/-- What the second kernel starts from. -/
theorem in1 (c : Dev nD) : iprop(Pipeline.scopedRest (Pipeline.pin (pcfgs (F := F)) adm 1).spec c ∗ (∃ r, prngReg c r)
      ∗ StableHlo.held (c.tc : Thread nD τ) ∅ (after0 m c) ∗ Xk (parts m) c) ⊢ ((pdats m 1 c).Φ 0 : sProp 𝕄) := by
  rw [show (pdats m 1 c).Φ 0 = iprop(Pipeline.scopedRest spec1 c ∗ (∃ r, prngReg c r) ∗ Xk (parts m) c) from rfl]
  iintro ⟨H1, H2, -, H3⟩
  isplitl [H1]; · iexact H1
  isplitl [H2]; · iexact H2
  iexact H3

/-- What the second kernel leaves. -/
theorem out1 (c : Dev nD) : (pdats m 1 c).Φ (Fin.last (Pipeline.pin (pcfgs (F := F)) adm 1).N)
    ⊢ (iprop(Pipeline.scopedRest (Pipeline.pin (pcfgs (F := F)) adm 1).spec c ∗ (∃ r, prngReg c r)
      ∗ StableHlo.held (c.tc : Thread nD τ) ∅ (after1 m c) ∗ Pipeline.ownSems0 osem c ∗ Yk (parts m) c) : sProp 𝕄) := by
  rw [show (pdats m 1 c).Φ (Fin.last _) = iprop(Pipeline.scopedRest spec1 c ∗ (∃ r, prngReg c r) ∗ Pipeline.ownSems0 osem c ∗ Yk (parts m) c) from rfl, held_none]
  iintro ⟨H1, H2, H3, H4⟩
  isplitl [H1]; · iexact H1
  isplitl [H2]; · iexact H2
  isplitr; · iempintro
  isplitl [H3]; · iexact H3
  iexact H4

/-- The first kernel holds its arrays whole. -/
theorem share0 (c : Dev nD) (w) : (pdats m 0 c).share w = fullShare := (pdats m 0 c).share_full (fun _ => rfl) w
/-- The second kernel holds its arrays whole. -/
theorem share1 (c : Dev nD) (w) : (pdats m 1 c).share w = fullShare := (pdats m 1 c).share_full (fun _ => rfl) w

/-- The exchange's own semaphores are its own. -/
theorem own1 : Pipeline.OwnSemFacts spec1 osem := by decide +kernel

set_option backward.isDefEq.respectTransparency.types false in
/-- The first kernel: the arguments stay, its result is the partial sum; what rides to the exchange passes by. -/
def seg0 : Pipeline.RegionSeg (pcfgs (F := F)) adm (pdats m) 0 defs₀ 𝒱₀ (SiteBlocks.L NL) SiteBlocks.lv 0 :=
  Pipeline.RegionSeg.ofTalk (pcfgs (F := F)) adm (pdats m) 0 defs₀ 𝒱₀ (SiteBlocks.L NL) SiteBlocks.lv 0
    (fun k : PEmpty => k.elim) (Pipeline.OwnSemFacts.none _)
    ∅ (rest0 (F := F)) (Finset.empty_subset _) kit0 rfl (fun c => (body0 m c).loose)
    owe0 (fun _ => 0) (fun c => (add_zero (owe0 c)).symm) (fun _ => rfl) (fun _ => rfl) (share0 m)
    (V0 m) (after0 m) (restKept0 m)
    (fun _ => iprop(emp)) (fun _ => iprop(emp)) (fun _ => iprop(emp)) (fun _ => iprop(emp))
    (fun c => by iintro -; imodintro; iempintro) (in0 m) (out0 m) (fun c => by iintro -; imodintro; iempintro)
    (fun _ => 0) (cut0 m) (fun c => Tk (parts m) c)
    (entry0 m) (exit0 m)

set_option backward.isDefEq.respectTransparency.types false in
/-- The exchange: its result is the sum over the devices. -/
def seg1 : Pipeline.RegionSeg (pcfgs (F := F)) adm (pdats m) 0 defs₀ 𝒱₀ (SiteBlocks.L NL) SiteBlocks.lv 1 :=
  Pipeline.RegionSeg.ofTalk (pcfgs (F := F)) adm (pdats m) 0 defs₀ 𝒱₀ (SiteBlocks.L NL) SiteBlocks.lv 1
    osem own1
    ∅ (rest1 (F := F)) (Finset.empty_subset _) kit1 rfl (fun c => (body1 m c).loose)
    (fun _ => 0) owe0 (fun c => (owed1_zero m c).trans (zero_add _).symm) (owed1_last m) (fun _ => rfl) (share1 m)
    (after0 m) (after1 m) (restKept1 m)
    (Tk (parts m)) (Yk (parts m)) (Xk (parts m)) (Yk (parts m))
    (opening (parts m)) (in1 m) (out1 m) (fun c => by iintro H; imodintro; iexact H)
    (fun _ => 0) (cut1 m) (fun _ => iprop(emp))
    (entry1 m) (exit1 m)

end Cert.KernelIdeal.Ring

end
-- ==== Proof.KernelIdeal.Links.lean ====
/-
  How the states between the program's two kernels follow each other.
-/
module

public import proofs.«01_k».proof.Proof.KernelIdeal.Segments

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (Pay tallyL Fam)
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

attribute [local irreducible] Tk Yk

/-- What a device has at the program's start. -/
def start (c : Dev nD) : sProp 𝕄 :=
  iprop(StableHlo.held (c.tc : Thread nD τ) (Pipeline.ucRefs τ sig) (V0 m c) ∗ Tk (parts m) c ∗ (∃ r, prngReg c r)
    ∗ ∃ W, owes (c.tc : Thread nD τ) (owe0 c) W)

/-- What a device has at the end, the debt aside. -/
def done (c : Dev nD) : sProp 𝕄 :=
  iprop(StableHlo.held (c.tc : Thread nD τ) (Pipeline.ucRefs τ sig) (after1 m c) ∗ Yk (parts m) c)

set_option backward.isDefEq.respectTransparency.types false in
/-- Into the first kernel. -/
theorem into0 (c : Dev nD) : start m c ⊢ (seg0 m).pre c := by
  show _ ⊢ (iprop(StableHlo.held (c.tc : Thread nD τ) (arrs0 (F := F)) (V0 m c) ∗ (∃ r, prngReg c r)
    ∗ (StableHlo.held (c.tc : Thread nD τ) (rest0 (F := F)) (V0 m c) ∗ Tk (parts m) c) ∗ emp ∗ ∃ Wd, owes (c.tc : Thread nD τ) (owe0 c + 0) Wd) : sProp 𝕄)
  unfold start
  rw [StableHlo.held_sub_split (c.tc : Thread nD τ) (arrs0_sub (F := F)) (V0 m c), add_zero]
  iintro ⟨⟨H1, H2⟩, HT, Hp, HO⟩
  isplitl [H1]; · iexact H1
  isplitl [Hp]; · iexact Hp
  isplitl [H2 HT]
  · isplitl [H2]; · iexact H2
    iexact HT
  isplitr; · iempintro
  iexact HO

set_option backward.isDefEq.respectTransparency.types false in
/-- From the first kernel into the second. -/
theorem between (c : Dev nD) : (seg0 m).post c ⊢ (seg1 m).pre c := by
  show (iprop(StableHlo.held (c.tc : Thread nD τ) (arrs0 (F := F)) (after0 m c) ∗ (∃ r, prngReg c r)
    ∗ (StableHlo.held (c.tc : Thread nD τ) (rest0 (F := F)) (after0 m c) ∗ Tk (parts m) c) ∗ emp ∗ ∃ Wd, owes (c.tc : Thread nD τ) (owe0 c) Wd) : sProp 𝕄)
    ⊢ (iprop(StableHlo.held (c.tc : Thread nD τ) (arrs1 (F := F)) (after0 m c) ∗ (∃ r, prngReg c r)
    ∗ (StableHlo.held (c.tc : Thread nD τ) (rest1 (F := F)) (after0 m c) ∗ emp) ∗ Tk (parts m) c ∗ ∃ Wd, owes (c.tc : Thread nD τ) (0 + owe0 c) Wd) : sProp 𝕄)
  have h0 := StableHlo.held_sub_split (Ix := ℕ) (Name := ℕ) (U := UU) (Lvl := ℕ) (c.tc : Thread nD τ) (arrs0_sub (F := F)) (after0 m c)
  have h1 := StableHlo.held_sub_split (Ix := ℕ) (Name := ℕ) (U := UU) (Lvl := ℕ) (c.tc : Thread nD τ) (arrs1_sub (F := F)) (after0 m c)
  have h : (iprop(StableHlo.held (c.tc : Thread nD τ) (arrs0 (F := F)) (after0 m c) ∗ StableHlo.held (c.tc : Thread nD τ) (rest0 (F := F)) (after0 m c)) : sProp 𝕄)
      ⊢ iprop(StableHlo.held (c.tc : Thread nD τ) (arrs1 (F := F)) (after0 m c) ∗ StableHlo.held (c.tc : Thread nD τ) (rest1 (F := F)) (after0 m c)) :=
    Entails.of_eq (h0.symm.trans h1)
  rw [zero_add]
  iintro ⟨H1, Hp, ⟨H2, HT⟩, -, HO⟩
  ihave H := h $$ [H1 H2]
  · isplitl [H1] <;> iassumption
  icases H with ⟨H1, H2⟩
  isplitl [H1]; · iexact H1
  isplitl [Hp]; · iexact Hp
  isplitl [H2]
  · isplitl [H2]; · iexact H2
    iempintro
  isplitl [HT]; · iexact HT
  iexact HO

set_option backward.isDefEq.respectTransparency.types false in
/-- Out of the second kernel. -/
theorem outof1 (c : Dev nD) : (seg1 m).post c ⊢ (iprop(done m c ∗ ∃ W, owes (c.tc : Thread nD τ) (0 : CellTallies nD τ sig ℕ) W) : sProp 𝕄) := by
  show (iprop(StableHlo.held (c.tc : Thread nD τ) (arrs1 (F := F)) (after1 m c) ∗ (∃ r, prngReg c r)
    ∗ (StableHlo.held (c.tc : Thread nD τ) (rest1 (F := F)) (after1 m c) ∗ emp) ∗ Yk (parts m) c ∗ ∃ Wd, owes (c.tc : Thread nD τ) 0 Wd) : sProp 𝕄) ⊢ _
  unfold done
  rw [StableHlo.held_sub_split (c.tc : Thread nD τ) (arrs1_sub (F := F)) (after1 m c)]
  iintro ⟨H1, -, ⟨H2, -⟩, HY, HO⟩
  isplitr [HO]
  · isplitr [HY]
    · isplitl [H1] <;> iassumption
    iexact HY
  iexact HO

/-! ## The launch -/

/-- The elements of the exchange's protocol at the launch. -/
def seed : URounds (GSem nD τ sig) Bool := launchOf fam.S fam.Sd fam.T

/-- Everything on one device. -/
def onDev (c₀ : Dev nD) (X : sProp 𝕄) (c : Dev nD) : sProp 𝕄 := if c = c₀ then X else iprop(emp)

/-- The family that has everything on one device is that device's assertion. -/
theorem bigSep_onDev (c₀ : Dev nD) (X : sProp 𝕄) : bigSep Finset.univ (onDev c₀ X) = X := by
  have h (c : Dev nD) (hc : c ∈ Finset.univ.erase c₀) : onDev c₀ X c = (BI.emp : sProp 𝕄) := if_neg (Finset.ne_of_mem_erase hc)
  rw [bigSep_univ_at _ c₀, bigSep_congr h, BI.bigSep_emp_const]
  have h₀ : onDev c₀ X c₀ = X := if_pos rfl
  rw [h₀]
  exact BI.equiv_iff.mp sep_emp

/-- The only semaphore outliving the kernels is the barrier. -/
theorem unscoped_eq : ∀ sm : SemLoc sig, sm.isScoped .tc = false → sm = semOf .bar := by decide

/-- So at the launch the outliving semaphores are the barrier at zero. -/
theorem unscopedSems0_eq (c : Dev nD) : (unscopedSems0 c : sProp 𝕄) = semVal ((c.tc : Thread nD τ), fam.bar) 0 := by
  unfold unscopedSems0
  rw [show (Finset.univ.filter fun sm : SemLoc sig => ¬ sm.isScoped .tc) = {semOf .bar} from by decide, BI.bigSep_singleton, fam_bar]

/-- A family over the devices follows from a family that gives it device by device. -/
theorem univ_mono {Φ Ψ : Dev nD → sProp 𝕄} (h : ∀ c, Φ c ⊢ Ψ c) : (bigSep Finset.univ Φ : sProp 𝕄) ⊢ bigSep Finset.univ Ψ := bigSep_mono fun c _ => h c

/-- A family of pairs is a pair of families; -/
theorem univ_unpair {Φ Ψ : Dev nD → sProp 𝕄} : (bigSep Finset.univ fun c => iprop(Φ c ∗ Ψ c) : sProp 𝕄) ⊢ iprop(bigSep Finset.univ Φ ∗ bigSep Finset.univ Ψ) :=
  Entails.of_eq (bigSep_sep' _ _ _)
/-- and a pair of families a family of pairs. -/
theorem univ_pair {Φ Ψ : Dev nD → sProp 𝕄} : (iprop(bigSep Finset.univ Φ ∗ bigSep Finset.univ Ψ) : sProp 𝕄) ⊢ bigSep Finset.univ fun c => iprop(Φ c ∗ Ψ c) :=
  Entails.of_eq (bigSep_sep' _ _ _).symm

/-- The counters at zero and the protocol's elements become every device's start of the exchange. -/
theorem funded (P : Dev nD → Vec F S1024x1024 .f32) :
    iprop((bigSep Finset.univ fun c : Dev nD => iprop(semVal ((c.tc : Thread nD τ), fam.bar) 0)) ∗ BI.own (ER seed))
      ⊢ (|={Set.univ}=> bigSep Finset.univ (fam.launched ER (Rd P) nbs) : sProp 𝕄) := by
  have h := fam.funds ER (Rd P) (fun g _ h => h) nbs (Es := Set.univ)
  have e (c : Dev nD) : (iprop(semVal ((c.tc : Thread nD τ), fam.bar) 0 ∗ Pipeline.launchCred (fun _ : Dev nD => (0 : CellTallies nD τ sig ℕ)) c) : sProp 𝕄)
      = semVal ((c.tc : Thread nD τ), fam.bar) 0 := by
    rw [Pipeline.launchCred_zero]; exact BI.equiv_iff.mp sep_emp
  unfold SiteBlocks.Funds at h
  rw [bigSep_congr fun c _ => e c] at h
  exact h

set_option backward.isDefEq.respectTransparency.types false in
/-- The start of every device out of what the launch deals. -/
theorem init : iprop((bigSep Finset.univ fun c : Dev nD => iprop(unscopedBufs c (fun b => m ((c.tc : Thread nD τ).loc b)) ∗ unscopedSems0 c
        ∗ owes (c.tc : Thread nD τ) (owe0 c) ∅ ∗ Pipeline.launchCred owe0 c ∗ prngReg c (ρ c) ∗ onDev 0 (BI.own (ER seed)) c)) ∗ levAts (SiteBlocks.L NL) SiteBlocks.lv)
      ⊢ (|={Set.univ}=> bigSep Finset.univ (start m) : sProp 𝕄) := by
  have hcore (c : Dev nD) : iprop(unscopedBufs c (fun b => m ((c.tc : Thread nD τ).loc b)) ∗ unscopedSems0 c
        ∗ owes (c.tc : Thread nD τ) (owe0 c) ∅ ∗ Pipeline.launchCred owe0 c ∗ prngReg c (ρ c) ∗ onDev 0 (BI.own (ER seed)) c)
      ⊢ (iprop((StableHlo.held (c.tc : Thread nD τ) (Pipeline.ucRefs τ sig) (V0 m c) ∗ cred (due0 c) ∗ (∃ r, prngReg c r)
          ∗ ∃ W, owes (c.tc : Thread nD τ) (owe0 c) W) ∗ (semVal ((c.tc : Thread nD τ), fam.bar) 0 ∗ onDev 0 (BI.own (ER seed)) c)) : sProp 𝕄) := by
    rw [show unscopedBufs c (fun b => m ((c.tc : Thread nD τ).loc b)) = (StableHlo.held (c.tc : Thread nD τ) (Pipeline.ucRefs τ sig) (V0 m c) : sProp 𝕄)
      from Pipeline.unscopedBufs_held c (V0 m c), unscopedSems0_eq, launch_credit]
    iintro ⟨Hh, Hs, HO, Hc, Hp, HG⟩
    isplitl [Hh HO Hc Hp]
    · isplitl [Hh]; · iexact Hh
      isplitl [Hc]; · iexact Hc
      isplitl [Hp]; · iexists (ρ c); iexact Hp
      iexists ∅; iexact HO
    isplitl [Hs] <;> iassumption
  have hfin (c : Dev nD) : iprop(fam.launched ER (Rd (parts m)) nbs c ∗ (StableHlo.held (c.tc : Thread nD τ) (Pipeline.ucRefs τ sig) (V0 m c) ∗ cred (due0 c) ∗ (∃ r, prngReg c r)
          ∗ ∃ W, owes (c.tc : Thread nD τ) (owe0 c) W)) ⊢ (start m c : sProp 𝕄) := by
    unfold start
    rw [show Tk (parts m) c = iprop(fam.launched ER (Rd (parts m)) nbs c ∗ cred (due0 c)) from by unfold Tk; rfl]
    generalize fam.launched ER (Rd (parts m)) nbs c = A
    iintro ⟨HA, Hh, Hc, Hp, HO⟩
    isplitl [Hh]; · iexact Hh
    isplitl [HA Hc]
    · isplitl [HA] <;> iassumption
    isplitl [Hp]; · iexact Hp
    iexact HO
  have h1 := univ_mono hcore
  have h2 := univ_mono hfin
  have h2 := univ_pair.trans h2
  have hf := funded (F := F) (parts m)
  generalize bigSep Finset.univ (fam.launched ER (Rd (parts m)) nbs) = A at hf h2
  iintro ⟨H, -⟩
  ihave H' := h1 $$ H
  ihave H2 := univ_unpair $$ H'; icases H2 with ⟨HB, H3⟩
  ihave H4 := univ_unpair $$ H3; icases H4 with ⟨Hv, HX⟩
  ihave HG := (Entails.of_eq (bigSep_onDev 0 (BI.own (ER seed)))) $$ HX
  imod hf $$ [Hv HG] with HA
  · isplitl [Hv] <;> iassumption
  imodintro
  iapply h2
  isplitl [HA] <;> iassumption

end Cert.KernelIdeal.Ring

end
-- ==== Proof.KernelIdeal.Run.lean ====
/-
  The run of the whole program on every device.
-/
module

public import proofs.«01_k».proof.Proof.KernelIdeal.Links

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (Pay tallyL Fam)
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

attribute [local irreducible] Tk

/-- The program's segments. -/
def segs : List (Pipeline.Seg (pcfgs (F := F)) adm (pdats m) 0 defs₀ 𝒱₀ (SiteBlocks.L NL) SiteBlocks.lv) :=
  [.region (seg0 m), .region (seg1 m)]

/-- The launch's ghost element. -/
def launchElt : UU :=
  (initOf (Pipeline.cells (Pipeline.pin (pcfgs (F := F)) adm) cellOf_inj) (Pipeline.launchToks (Pipeline.pin (pcfgs (F := F)) adm) cellOf_inj), seed)

/-- At the end the barrier's counter reads zero. -/
theorem counter (c : Dev nD) (s' : Phys nD τ sig (Elt F)) :
    iprop(Yk (parts m) c ∗ SI s') ⊢ (|={Set.univ}=> (⌜s'.mem.sem (cellAt (c, .bar)) = 0⌝ ∗ SI s') : sProp 𝕄) := by
  unfold Yk
  have hi := fun κ => inv_at (parts m) κ c .bar
  have hr := duties_later (parts m) (cellAt (c, .bar)) (0 + 1) (Nat.le_refl 1)
  have hz := fun κ : GSem nD τ sig → ℕ => Rounds.body_counter_zero ER (Rd (parts m)) (g := cellAt (c, .bar)) (κ := κ (cellAt (c, .bar))) (Es := Set.univ) (Set.mem_univ _) hr s'
  iintro ⟨⟨⟨%κ, #HI⟩, Hat⟩, HSI⟩
  imod (hz κ) $$ [Hat HSI] with ⟨%h, -, HSI⟩
  · isplitr; · iapply (hi κ); iexact HI
    isplitl [Hat] <;> iassumption
  imodintro
  isplitr; · ipureintro; exact h
  iexact HSI

/-- What the memory holds on a device at the end. -/
theorem reads (c : Dev nD) (s' : Phys nD τ sig (Elt F)) :
    iprop(done m c ∗ SI s') ⊢ (|={Set.univ}=> (⌜(∀ r : Ref sig .tc, (Proc.devRef .tc r : DevRef τ sig) ∈ Pipeline.ucRefs τ sig →
      s'.mem.mem ((c.tc : Thread nD τ).loc r) = after1 m c (Proc.devRef .tc r)) ∧ s'.mem.sem (cellAt (c, .bar)) = 0⌝ ∗ SI s') : sProp 𝕄) := by
  have hc := counter m c s'
  unfold done StableHlo.held
  generalize Yk (parts m) c = Y at hc ⊢
  iintro ⟨⟨Hh, HY⟩, HSI⟩
  ihave Hr := (pointsTo_read_all (Pipeline.ucRefs τ sig) (fun b => ((c.tc : Thread nD τ).1, b)) (after1 m c) s') $$ [Hh HSI]
  · isplitl [Hh] <;> iassumption
  icases Hr with ⟨%h, HSI⟩
  imod hc $$ [HY HSI] with ⟨%hz, HSI⟩
  · isplitl [HY] <;> iassumption
  imodintro
  isplitr
  · ipureintro
    exact ⟨fun r hr => h _ hr, hz⟩
  iexact HSI

/-- The buffers outliving the kernels. -/
theorem outlive (r : Ref sig .tc) (h : ¬ r.isScoped) : (Proc.devRef .tc r : DevRef τ sig) ∈ Pipeline.ucRefs τ sig :=
  Finset.mem_filter.mpr ⟨StableHlo.devRef_mem_tcRefs r, h⟩

set_option backward.isDefEq.respectTransparency.types false in
/-- The run: the arguments stay, the result is the sum of the partial sums over the devices, every counter ends at zero. -/
theorem run_sum : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v2) = total (parts m)) ∧ r.2.sem = fun _ => 0) :=
  Pipeline.θ_run_regions_kit_sems (pcfgs (F := F)) adm (pdats m) 0 cellOf_inj EP defs₀ 𝒱₀ (SiteBlocks.L NL) SiteBlocks.lv m ρ main (segs m)
    (fun c Q => by
      rewrite [main_chain c, Pipeline.Seg.run_eq_chain, show (segs m).map Pipeline.Seg.prog = [
          Prog.lift (.customCall (Pipeline.entry 0) ()), Prog.lift (.customCall (Pipeline.entry 1) ()) ] from rfl]
      dsimp (config := { failIfUnchanged := false }) only
      exact .rfl)
    (by simp only [segs, Pipeline.Seg.pipes_host, Pipeline.Seg.pipes_region, Pipeline.Seg.pipes_nil]; decide)
    (O₀ := owe0) (hL := fun g h => if_neg h) (G := onDev 0 (BI.own (ER seed))) (u₀ := launchElt (F := F))
    (hu₀ := by
      unfold launchElt
      iintro Hu
      ihave H := (ownU_pair _ _) $$ Hu
      icases H with ⟨HP, HX⟩
      imodintro
      isplitl [HP]; · iexact HP
      rw [bigSep_onDev]; iexact HX)
    (T₀ := start m) (Tₙ := done m)
    (hch := ⟨fun c => into0 m c, fun c => between m c, fun c => outof1 m c⟩)
    (hinit := init m ρ)
    (QY := fun c s => (∀ r : Ref sig .tc, (Proc.devRef .tc r : DevRef τ sig) ∈ Pipeline.ucRefs τ sig →
      s.mem ((c.tc : Thread nD τ).loc r) = after1 m c (Proc.devRef .tc r)) ∧ s.sem (cellAt (c, .bar)) = 0)
    (hfin := fun c s' => reads m c s')
    (hQ := fun s h hs => ⟨fun c =>
        have hk (r : Ref sig .tc) (h0 : r ≠ main_v1) (h1 : r ≠ main_v2) (hr : (Proc.devRef .tc r : DevRef τ sig) ∈ Pipeline.ucRefs τ sig) :
            s.mem ((c.tc : Thread nD τ).loc r) = m ((c.tc : Thread nD τ).loc r) :=
          (((h c).1 r hr).trans (kept1 m c r h1)).trans (kept0 m c r h0)
        ⟨hk main_arg0 (by decide) (by decide) (outlive _ (by decide)), hk main_arg1 (by decide) (by decide) (outlive _ (by decide)),
          hk main_arg2 (by decide) (by decide) (outlive _ (by decide)), hk main_arg3 (by decide) (by decide) (outlive _ (by decide)),
          ((h c).1 main_v2 (outlive _ (by decide))).trans (after1_v2 m c)⟩,
      sem_eq_zero hs fun c sm hsm => by
        obtain rfl := unscoped_eq sm hsm
        exact (h c).2⟩)

end Cert.KernelIdeal.Ring

end
-- ==== Proof.Value.Entry.lean ====
/-
  One hidden unit's contribution to one entry of the result, and the two ways a sum of them is written.
-/
module

public import proofs.«01_k».proof.KernelIdeal
public import Idealize.ShloMosaic.Lib.MatmulPlain
public import Idealize.ShloMosaic.Lib.StackMember
public import Idealize.ShloMosaic.Lib.IdealHost

@[expose] public section

noncomputable section

namespace Cert.KernelIdeal.Ring

open Idealize.ShloMosaic Idealize.ShloMosaic.TcCoe Idealize.ShloMosaic.ValueIdx
open scoped BigOperators

/-- A gate times the sigmoid-weighted up value. -/
def act (a b : EReal) : EReal := a * (b * Ideal.logistic b)

/-- The exponential is never negative. -/
theorem exp_nonneg (x : EReal) : 0 ≤ Ideal.exp x := by
  induction x using EReal.rec with
  | bot => exact le_refl _
  | top => exact le_top
  | coe r => exact EReal.coe_nonneg.2 (Real.exp_pos r).le

/-- One more than an exponential is not zero. -/
theorem one_add_exp_ne (x : EReal) : 1 + Ideal.exp x ≠ 0 := by
  have h : (1 : EReal) ≤ 1 + Ideal.exp x := le_add_of_nonneg_right (exp_nonneg x)
  exact fun e => absurd (e ▸ h) (not_le.2 zero_lt_one)

/-- Dividing by one plus the exponential of the negative is multiplying by the logistic function. -/
theorem div_one_add_exp (x : EReal) : Ideal.div x (1 + Ideal.exp (-x)) = x * Ideal.logistic x := by
  unfold Ideal.logistic Ideal.div
  rw [if_neg (one_add_exp_ne _), if_neg (one_add_exp_ne _), one_mul]

variable {K : ℕ}

/-- Hidden unit `k`'s contribution to row `r`, column `q`: its activation times its row of the down projection. -/
def entry (X : FVec Ideal ⟨2, ![1024, 1024]⟩ .f32) (G U : FVec Ideal ⟨2, ![1024, K]⟩ .f32) (W : FVec Ideal ⟨2, ![K, 1024]⟩ .f32)
    (r q : Fin 1024) (k : Fin K) : EReal :=
  act (∑ i : Fin 1024, X (ix2 r i) * G (ix2 i k)) (∑ i : Fin 1024, X (ix2 r i) * U (ix2 i k)) * W (ix2 k q)

/-- A kernel's product onto a zero accumulator, read at an entry. -/
theorem matmul_zero_plain {M L N : ℕ} (A : FVec Ideal ⟨2, ![M, L]⟩ .f32) (B : FVec Ideal ⟨2, ![L, N]⟩ .f32) (a : Fin M) (b : Fin N) :
    matmul (DotDims.plain M L N) none A B (constant ⟨2, ![M, N]⟩ .f32 0x00000000#32) (ix2 a b) = ∑ k : Fin L, A (ix2 a k) * B (ix2 k b) := by
  refine (Ideal.matmul_plain_apply none A B _ a b).trans ?_
  rw [show (constant ⟨2, ![M, N]⟩ .f32 0x00000000#32 : FVec Ideal ⟨2, ![M, N]⟩ .f32) (ix2 a b) = 0 from Ideal.ofBits_zero_f32, zero_add]

/-- A sum over positions cut into equal blocks is the sum over the blocks of the sums within them. -/
theorem sum_blocks {N m n : ℕ} (h : N = m * n) (f : Fin N → EReal) :
    ∑ k, f k = ∑ a : Fin m, ∑ b : Fin n, f ⟨a.val * n + b.val, by
      rw [h]; calc a.val * n + b.val < a.val * n + n := Nat.add_lt_add_left b.isLt _
        _ = (a.val + 1) * n := (Nat.succ_mul _ _).symm
        _ ≤ m * n := Nat.mul_le_mul_right _ a.isLt⟩ := by
  subst h
  rw [← finProdFinEquiv.sum_comp, Fintype.sum_prod_type]
  refine Finset.sum_congr rfl fun a _ => Finset.sum_congr rfl fun b _ => congrArg f (Fin.ext ?_)
  show b.val + n * a.val = a.val * n + b.val
  rw [Nat.mul_comm, Nat.add_comm]

end Cert.KernelIdeal.Ring

end
-- ==== Proof.Value.Around.lean ====
/-
  The two chains of additions around the ring add every device's array exactly once.
-/
module

public import proofs.«01_k».proof.Proof.KernelIdeal.Dats
public import proofs.«01_k».proof.Proof.Value.Entry

@[expose] public section

noncomputable section

namespace Cert.KernelIdeal.Ring

open Idealize.ShloMosaic Idealize.ShloMosaic.TcCoe Idealize.ShloMosaic.ValueIdx
open Cert.KernelIdeal.Gen
open scoped BigOperators

variable (P : Dev nD → Vec Ideal S1024x1024 .f32)

/-- A chain of additions is the sum of what it adds. -/
theorem acc_apply (rt : Bool) (c n : ℕ) (i : S1024x1024.Idx) :
    acc P rt c n i = ∑ j : Fin (n + 1), P (dev (who rt c j.val)) i := by
  induction n with
  | zero => simp [acc]
  | succ n ih =>
    rw [Fin.sum_univ_castSucc]
    show P (dev (who rt c (n + 1))) i + acc P rt c n i = _
    rw [ih]
    exact add_comm _ _

/-- The device that adds its array at a given place: eight along one way, then eight along the other. -/
def adder (c : ℕ) (j : Fin 8 ⊕ Fin 8) : Dev nD := Sum.elim (fun a => dev (who false c a.val)) (fun b => dev (who true c b.val)) j

/-- No device adds twice. -/
theorem adder_inj (c : ℕ) : Function.Injective (adder c) := by
  rintro (a | a) (b | b) e <;>
    (have e' := congrArg Fin.val e
     have ha := a.isLt
     have hb := b.isLt
     simp only [adder, Sum.elim_inl, Sum.elim_inr, dev, who, cond_true, cond_false] at e')
  · exact congrArg Sum.inl (Fin.ext (by omega))
  · omega
  · omega
  · exact congrArg Sum.inr (Fin.ext (by omega))

/-- So every device adds once. -/
theorem adder_bij (c : ℕ) : Function.Bijective (adder c) :=
  (Fintype.bijective_iff_injective_and_card _).2 ⟨adder_inj c, rfl⟩

/-- The exchange leaves the sum over the devices. -/
theorem total_apply (i : S1024x1024.Idx) : total P i = ∑ d : Dev nD, P d i := by
  rw [← (adder_bij ((i 0).val / 64)).sum_comp (fun d => P d i), Fintype.sum_sum_type]
  show acc P false _ 7 i + acc P true _ 7 i = _
  rw [acc_apply, acc_apply]
  rfl

end Cert.KernelIdeal.Ring

end
-- ==== Proof.Value.Tile.lean ====
/-
  What one grid point adds to a device's partial sum, entry by entry.
-/
module

public import proofs.«01_k».proof.Proof.Value.Entry
public import proofs.«01_k».proof.Proof.Gen.KernelIdeal.Skeleton
public import Idealize.ShloMosaic.Lib.KernelVsHost

@[expose] public section

noncomputable section

namespace Cert.KernelIdeal.Ring

open Idealize.ShloMosaic Idealize.ShloMosaic.TcCoe Idealize.ShloMosaic.ValueIdx
open Cert.KernelIdeal.Gen
open scoped BigOperators

/-- The block product at a point, read at an entry: the contributions of the point's hidden units. -/
theorem tile_apply (x : Vec Ideal S1024x1024 .f32) (g u : Vec Ideal S1024x256 .f32) (w : Vec Ideal S256x1024 .f32) (r q : Fin 1024) :
    k0_pay1 x g x u w (ix2 r q) = ∑ k : Fin 256, entry x g u w r q k := by
  unfold k0_pay1
  simp only [shapeCast_self]
  refine (matmul_zero_plain (M := 1024) (L := 256) (N := 1024) _ w r q).trans (Finset.sum_congr rfl fun k _ => ?_)
  have hg := matmul_zero_plain (M := 1024) (L := 1024) (N := 256) x g r k
  have hu := matmul_zero_plain (M := 1024) (L := 1024) (N := 256) x u r k
  unfold entry
  rw [← hg, ← hu]
  rfl

/-- A later point adds its block product to what was there. -/
theorem tile_add (x : Vec Ideal S1024x1024 .f32) (g u : Vec Ideal S1024x256 .f32) (w : Vec Ideal S256x1024 .f32) (v : Vec Ideal S1024x1024 .f32)
    (i : S1024x1024.Idx) : k0_pay2 x g x u w v i = v i + k0_pay1 x g x u w i := by
  unfold k0_pay2
  simp only [shapeCast_self]
  rfl

end Cert.KernelIdeal.Ring

end
-- ==== Proof.Value.Window.lean ====
/-
  Which entries of the arrays the first kernel's windows hold at each grid point.
-/
module

public import proofs.«01_k».proof.Proof.Value.Entry
public import proofs.«01_k».proof.Proof.KernelIdeal.Dats

@[expose] public section

noncomputable section

namespace Cert.KernelIdeal.Ring

open Idealize.ShloMosaic Idealize.ShloMosaic.TcCoe Idealize.ShloMosaic.ValueIdx
open Cert.KernelIdeal.Gen
open scoped BigOperators

variable {F : FTy → Type} [FloatOps F]
variable (m : (ℓ : Loc nD τ sig) → Buf (Elt F) ℓ) (c : Dev nD) (t : Fin cfg0.N)

/-- A position within a point's block of a device's hidden units. -/
theorem unit_lt (l : Fin 256) : t.val * 256 + l.val < 2048 := by
  have h : t.val < grid0.N := t.isLt
  rw [N_0] at h
  have := l.isLt
  omega

/-- The first window holds the whole input. -/
theorem xAt_eq (r i : Fin 1024) : xAt m c t (ix2 r i) = m ((c.tc : Thread nD τ).loc main_arg0) (ix2 r i) := by
  have hi : win0_0.index t 0 = 0 ∧ win0_0.index t 1 = 0 := by
    rcases fin_N0 t with rfl | rfl | rfl | rfl | rfl | rfl | rfl | rfl <;> decide
  unfold xAt blkAt
  rw [View.read_apply]
  show m (c.tc.loc main_arg0) _ = m (c.tc.loc main_arg0) _
  congr 1
  funext a
  apply Fin.ext
  match a with
  | ⟨0, _⟩ => show win0_0.index t 0 * 1024 + 1 * r.val = r.val; rw [hi.1]; omega
  | ⟨1, _⟩ => show win0_0.index t 1 * 1024 + 1 * i.val = i.val; rw [hi.2]; omega

/-- The second holds the point's columns of the gate projection. -/
theorem gAt_eq (i : Fin 1024) (l : Fin 256) :
    gAt m c t (ix2 i l) = m ((c.tc : Thread nD τ).loc main_arg1) (ix2 i (⟨t.val * 256 + l.val, unit_lt t l⟩ : Fin 2048)) := by
  have hi : win0_1.index t 0 = 0 ∧ win0_1.index t 1 = t.val := by
    rcases fin_N0 t with rfl | rfl | rfl | rfl | rfl | rfl | rfl | rfl <;> decide
  unfold gAt blkAt
  rw [View.read_apply]
  show m (c.tc.loc main_arg1) _ = m (c.tc.loc main_arg1) _
  congr 1
  funext a
  apply Fin.ext
  match a with
  | ⟨0, _⟩ => show win0_1.index t 0 * 1024 + 1 * i.val = i.val; rw [hi.1]; omega
  | ⟨1, _⟩ => show win0_1.index t 1 * 256 + 1 * l.val = t.val * 256 + l.val; rw [hi.2]; omega

/-- The third holds the point's columns of the up projection. -/
theorem uAt_eq (i : Fin 1024) (l : Fin 256) :
    uAt m c t (ix2 i l) = m ((c.tc : Thread nD τ).loc main_arg2) (ix2 i (⟨t.val * 256 + l.val, unit_lt t l⟩ : Fin 2048)) := by
  have hi : win0_2.index t 0 = 0 ∧ win0_2.index t 1 = t.val := by
    rcases fin_N0 t with rfl | rfl | rfl | rfl | rfl | rfl | rfl | rfl <;> decide
  unfold uAt blkAt
  rw [View.read_apply]
  show m (c.tc.loc main_arg2) _ = m (c.tc.loc main_arg2) _
  congr 1
  funext a
  apply Fin.ext
  match a with
  | ⟨0, _⟩ => show win0_2.index t 0 * 1024 + 1 * i.val = i.val; rw [hi.1]; omega
  | ⟨1, _⟩ => show win0_2.index t 1 * 256 + 1 * l.val = t.val * 256 + l.val; rw [hi.2]; omega

/-- The fourth holds the point's rows of the down projection. -/
theorem wAt_eq (l : Fin 256) (q : Fin 1024) :
    wAt m c t (ix2 l q) = m ((c.tc : Thread nD τ).loc main_arg3) (ix2 (⟨t.val * 256 + l.val, unit_lt t l⟩ : Fin 2048) q) := by
  have hi : win0_3.index t 0 = t.val ∧ win0_3.index t 1 = 0 := by
    rcases fin_N0 t with rfl | rfl | rfl | rfl | rfl | rfl | rfl | rfl <;> decide
  unfold wAt blkAt
  rw [View.read_apply]
  show m (c.tc.loc main_arg3) _ = m (c.tc.loc main_arg3) _
  congr 1
  funext a
  apply Fin.ext
  match a with
  | ⟨0, _⟩ => show win0_3.index t 0 * 256 + 1 * l.val = t.val * 256 + l.val; rw [hi.1]; omega
  | ⟨1, _⟩ => show win0_3.index t 1 * 1024 + 1 * q.val = q.val; rw [hi.2]; omega

end Cert.KernelIdeal.Ring

end
-- ==== Proof.Value.Partial.lean ====
/-
  A device's partial sum, entry by entry: the contributions of its own hidden units.
-/
module

public import proofs.«01_k».proof.Proof.Value.Tile
public import proofs.«01_k».proof.Proof.Value.Window

@[expose] public section

noncomputable section

namespace Cert.KernelIdeal.Ring

open Idealize.ShloMosaic Idealize.ShloMosaic.TcCoe Idealize.ShloMosaic.ValueIdx
open Cert.KernelIdeal.Gen
open scoped BigOperators

variable (m : (ℓ : Loc nD τ sig) → Buf (Elt Ideal) ℓ) (c : Dev nD)

/-- The block product at a grid point. -/
def tileAt (t : Fin cfg0.N) : Vec Ideal S1024x1024 .f32 := k0_pay1 (xAt m c t) (gAt m c t) (xAt m c t) (uAt m c t) (wAt m c t)

/-- The accumulator after a point is the sum of the block products so far. -/
theorem upTo_apply (n : ℕ) (h : n < grid0.N) (i : S1024x1024.Idx) :
    upTo m c n h i = ∑ t : Fin (n + 1), tileAt m c ⟨t.val, lt_of_lt_of_le t.isLt h⟩ i := by
  induction n with
  | zero => exact (Fin.sum_univ_one (fun t : Fin 1 => tileAt m c ⟨t.val, lt_of_lt_of_le t.isLt h⟩ i)).symm
  | succ n ih =>
    rw [Fin.sum_univ_castSucc]
    refine (tile_add _ _ _ _ _ i).trans ?_
    rw [ih]
    rfl

/-- A device's partial sum at an entry. -/
theorem parts_apply (r q : Fin 1024) : parts m c (ix2 r q) = ∑ t : Fin 8, ∑ l : Fin 256,
    entry (xAt m c ⟨t.val, lt_of_lt_of_le t.isLt last_lt⟩) (gAt m c ⟨t.val, lt_of_lt_of_le t.isLt last_lt⟩)
      (uAt m c ⟨t.val, lt_of_lt_of_le t.isLt last_lt⟩) (wAt m c ⟨t.val, lt_of_lt_of_le t.isLt last_lt⟩) r q l :=
  (upTo_apply m c 7 last_lt (ix2 r q)).trans (Finset.sum_congr rfl fun _ _ => tile_apply _ _ _ _ r q)

end Cert.KernelIdeal.Ring

end
-- ==== Proof.Value.Reference.lean ====
/-
  The reference's result, entry by entry: the contributions of all hidden units.
-/
module

public import proofs.«01_k».proof.Proof.Value.Entry
public import proofs.«01_k».proof.ReferenceIdeal
public import proofs.«01_k».proof.Proof.Gen.ReferenceIdeal

@[expose] public section

noncomputable section

namespace Cert.KernelIdeal.Ring

open Idealize.ShloMosaic Idealize.ShloMosaic.TcCoe Idealize.ShloMosaic.ValueIdx
open Idealize.ShloMosaic.StackMember (dotGeneral_plain_apply)
open scoped BigOperators

open Cert.ReferenceIdeal (S_ S1024x32768 S32768x1024 dot_S1024x1024_S1024x32768_S1024x32768_1_0_0_1_n_n
  dot_S1024x32768_S32768x1024_S1024x1024_1_0_0_1_n_n)

variable (x : FVec Ideal ⟨2, ![1024, 1024]⟩ .f32) (g u : FVec Ideal ⟨2, ![1024, 32768]⟩ .f32) (w : FVec Ideal ⟨2, ![32768, 1024]⟩ .f32)

/-- What the reference leaves, as a function of its four arguments. -/
def mlp : FVec Ideal ⟨2, ![1024, 1024]⟩ .f32 :=
  Host.dotGeneral dot_S1024x32768_S32768x1024_S1024x1024_1_0_0_1_n_n none
    (mulf (Host.dotGeneral dot_S1024x1024_S1024x32768_S1024x32768_1_0_0_1_n_n none x g)
      (Host.divf (Host.dotGeneral dot_S1024x1024_S1024x32768_S1024x32768_1_0_0_1_n_n none x u)
        (addf (broadcastInDim S1024x32768 ![] Cert.ReferenceIdeal.Gen.bcast_S_S1024x32768 (constant S_ .f32 0x3F800000#32))
          (Host.exp (Host.negf (Host.dotGeneral dot_S1024x1024_S1024x32768_S1024x32768_1_0_0_1_n_n none x u)))))) w

/-- The reference's activation is the kernel's. -/
theorem act_eq (a b : FVec Ideal S1024x32768 .f32) (j : S1024x32768.Idx) :
    mulf a (Host.divf b (addf (broadcastInDim S1024x32768 ![] Cert.ReferenceIdeal.Gen.bcast_S_S1024x32768 (constant S_ .f32 0x3F800000#32))
      (Host.exp (Host.negf b)))) j = act (a j) (b j) := by
  show a j * Ideal.div (b j) (Ideal.ofBits .f32 0x3F800000#32 + Ideal.exp (-(b j))) = _
  rw [Ideal.ofBits_one_f32, div_one_add_exp]
  rfl

/-- The reference's result at an entry. -/
theorem mlp_apply (r q : Fin 1024) : mlp x g u w (ix2 r q) = ∑ k : Fin 32768, entry x g u w r q k := by
  refine (dotGeneral_plain_apply (m := 1024) (k := 32768) (n := 1024) none _ w r q).trans (Finset.sum_congr rfl fun k _ => ?_)
  rw [act_eq]
  have hg := dotGeneral_plain_apply (m := 1024) (k := 1024) (n := 32768) none x g r k
  have hu := dotGeneral_plain_apply (m := 1024) (k := 1024) (n := 32768) none x u r k
  unfold entry
  rw [← hg, ← hu]
  rfl

end Cert.KernelIdeal.Ring

end
-- ==== Proof.Value.Equal.lean ====
/-
  The exchange leaves the reference's result on every device.
-/
module

public import proofs.«01_k».proof.Proof.Value.Around
public import proofs.«01_k».proof.Proof.Value.Partial
public import proofs.«01_k».proof.Proof.Value.Reference
public import Idealize.ShloMosaic.Lib.Layout

@[expose] public section

noncomputable section

namespace Cert.KernelIdeal.Ring

open Idealize.ShloMosaic Idealize.ShloMosaic.TcCoe Idealize.ShloMosaic.ValueIdx
open Cert.KernelIdeal.Gen
open scoped BigOperators

variable {α : Type}

/-- Hidden unit `l` of device `c`, among all of them. -/
theorem whole_lt (c : Fin 16) (l : Fin 2048) : c.val * 2048 + l.val < 32768 := by
  have := c.isLt
  have := l.isLt
  omega

/-- A device's columns of a whole array. -/
theorem block_cols (v : (⟨2, ![1024, 32768]⟩ : Shape).Idx → α) (c : Fin 16) (i : Fin 1024) (l : Fin 2048) :
    Layout.block ⟨2, ![1024, 2048]⟩ ⟨2, ![1024, 32768]⟩ 1 16 c v (by decide) (ix2 i l) = v (ix2 i (⟨c.val * 2048 + l.val, whole_lt c l⟩ : Fin 32768)) := by
  rw [Layout.block_apply]
  congr 1
  funext a
  apply Fin.ext
  match a with
  | ⟨0, _⟩ => rfl
  | ⟨1, _⟩ => rfl

/-- A device's rows of a whole array. -/
theorem block_rows (v : (⟨2, ![32768, 1024]⟩ : Shape).Idx → α) (c : Fin 16) (l : Fin 2048) (q : Fin 1024) :
    Layout.block ⟨2, ![2048, 1024]⟩ ⟨2, ![32768, 1024]⟩ 0 16 c v (by decide) (ix2 l q) = v (ix2 (⟨c.val * 2048 + l.val, whole_lt c l⟩ : Fin 32768) q) := by
  rw [Layout.block_apply]
  congr 1
  funext a
  apply Fin.ext
  match a with
  | ⟨0, _⟩ => rfl
  | ⟨1, _⟩ => rfl

variable (m : (ℓ : Loc nD τ sig) → Buf (Elt Ideal) ℓ)
variable (x : FVec Ideal ⟨2, ![1024, 1024]⟩ .f32) (g u : FVec Ideal ⟨2, ![1024, 32768]⟩ .f32) (w : FVec Ideal ⟨2, ![32768, 1024]⟩ .f32)

/-- Each device holds the whole input and its own blocks of the three projections. -/
def Holds (c : Dev nD) : Prop :=
  m ((c.tc : Thread nD τ).loc main_arg0) = x
    ∧ m ((c.tc : Thread nD τ).loc main_arg1) = Layout.block ⟨2, ![1024, 2048]⟩ ⟨2, ![1024, 32768]⟩ 1 16 c g
    ∧ m ((c.tc : Thread nD τ).loc main_arg2) = Layout.block ⟨2, ![1024, 2048]⟩ ⟨2, ![1024, 32768]⟩ 1 16 c u
    ∧ m ((c.tc : Thread nD τ).loc main_arg3) = Layout.block ⟨2, ![2048, 1024]⟩ ⟨2, ![32768, 1024]⟩ 0 16 c w

variable {m x g u w}

/-- A hidden unit's contribution, computed from a device's windows, is that of the unit's place in the whole arrays. -/
theorem entry_eq {c : Dev nD} (h : Holds m x g u w c) (t : Fin cfg0.N) (r q : Fin 1024) (l : Fin 256) :
    entry (xAt m c t) (gAt m c t) (uAt m c t) (wAt m c t) r q l
      = entry x g u w r q ⟨c.val * 2048 + (t.val * 256 + l.val), whole_lt c ⟨t.val * 256 + l.val, unit_lt t l⟩⟩ := by
  obtain ⟨h0, h1, h2, h3⟩ := h
  have hx : ∀ r i : Fin 1024, xAt m c t (ix2 r i) = x (ix2 r i) := fun r i => (xAt_eq m c t r i).trans (congrFun h0 _)
  have hg : ∀ i : Fin 1024, gAt m c t (ix2 i l) = g (ix2 i _) := fun i =>
    (gAt_eq m c t i l).trans ((congrFun h1 _).trans (block_cols g c i _))
  have hu : ∀ i : Fin 1024, uAt m c t (ix2 i l) = u (ix2 i _) := fun i =>
    (uAt_eq m c t i l).trans ((congrFun h2 _).trans (block_cols u c i _))
  have hw : wAt m c t (ix2 l q) = w (ix2 _ q) := (wAt_eq m c t l q).trans ((congrFun h3 _).trans (block_rows w c _ q))
  unfold entry
  rw [hw, Finset.sum_congr rfl fun i _ => congrArg₂ (· * ·) (hx r i) (hg i), Finset.sum_congr rfl fun i _ => congrArg₂ (· * ·) (hx r i) (hu i)]

/-- The sum over the devices of their partial sums is the reference's result. -/
theorem total_eq_mlp (h : ∀ c, Holds m x g u w c) : total (parts m) = mlp x g u w := by
  funext i
  obtain ⟨r, q, rfl⟩ : ∃ r q : Fin 1024, i = ix2 r q := ⟨i 0, i 1, eq_ix2 i⟩
  rw [total_apply, mlp_apply, sum_blocks (m := 16) (n := 2048) rfl]
  refine Finset.sum_congr rfl fun c _ => ?_
  rw [parts_apply, sum_blocks (N := 2048) (m := 8) (n := 256) rfl]
  exact Finset.sum_congr rfl fun t _ => Finset.sum_congr rfl fun l _ => entry_eq (h c) _ r q l

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- The kernel's frame: its run, read at the arguments and the counters. -/
theorem frameP : @Cert.quiescent_Kernel Cert.Kernel.Gen.facts := fun m g _ =>
  (θ_run _ _ _).mono (fun _ h => ⟨fun c => ⟨(h.1 c).1, (h.1 c).2.1, (h.1 c).2.2.1, (h.1 c).2.2.2.1⟩, h.2⟩) (Cert.Kernel.Ring.run_sum (F := Bits) m g)

/-- The idealized kernel's frame, likewise. -/
theorem framePI : @Cert.quiescent_KernelIdeal Cert.KernelIdeal.Gen.facts := fun m g _ =>
  (θ_run _ _ _).mono (fun _ h => ⟨fun c => ⟨(h.1 c).1, (h.1 c).2.1, (h.1 c).2.2.1, (h.1 c).2.2.2.1⟩, h.2⟩) (Cert.KernelIdeal.Ring.run_sum (F := Ideal) m g)

/-- The reference's frame: it declares no semaphore. -/
theorem frameRI : @Cert.quiescent_ReferenceIdeal Cert.ReferenceIdeal.Gen.facts := fun m g _ =>
  (θ_run _ _ _).mono (fun r h => ⟨fun c => (h c).2, Idealize.ShloMosaic.sem_eq_zero_of_no_sems (by decide) r.2⟩) (Cert.ReferenceIdeal.Value.run (F := Ideal) m g)

/-- On every device the idealized kernel leaves the reference's result. -/
theorem valuePI : @Cert.algebraic_KernelIdeal_ReferenceIdeal Cert.KernelIdeal.Gen.facts Cert.ReferenceIdeal.Gen.facts := by
  intro m g m' g' _ hold
  have e := Cert.KernelIdeal.Ring.total_eq_mlp (m := m) hold
  refine ⟨_, (θ_run _ _ _).mono (fun _ h c => ?_) (Cert.KernelIdeal.Ring.run_sum (F := Ideal) m g),
    (θ_run _ _ _).mono (fun _ h => h 0) (Cert.ReferenceIdeal.Value.run (F := Ideal) m' g')⟩
  obtain ⟨h0, h1, h2, h3, hv⟩ := h.1 c
  exact ⟨hv.trans e, h0, h1, h2, h3⟩

theorem claim : Cert.Claim := ⟨Cert.Kernel.Gen.facts, Cert.KernelIdeal.Gen.facts, Cert.ReferenceIdeal.Gen.facts,
  frameP, framePI, frameRI, trivial, valuePI⟩

end Cert.Proof

end
